-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 128]⟩ : Shape).Idx, (Layout.block ⟨2, ![1024, 128]⟩ ⟨2, ![1024, 1024]⟩ 1 8 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 128]⟩ : Shape).Idx → _) i = 1#1 → r.2.mem ((c.tc : Thread Cert.KernelIdeal.nD Cert.KernelIdeal.τ).loc Cert.KernelIdeal.main_v1) i = (Layout.block ⟨2, ![1024, 128]⟩ ⟨2, ![1024, 1024]⟩ 1 8 c v0 : (⟨2, ![1024, 128]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![1024, 1024]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![128, 1024]⟩ ⟨2, ![1024, 1024]⟩ 0 8 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 128]⟩ ⟨2, ![1024, 1024]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_unclipped : Cert.On_unclipped.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_unclipped (hKernelIdeal := hKernelIdeal) (hReferenceIdeal := hReferenceIdeal) (hOn_unclipped := hOn_unclipped)
    ∧ algebraic_KernelIdeal_SiluIdeal (hKernelIdeal := hKernelIdeal) (hSiluIdeal := hSiluIdeal)
-- ==== On_unclipped.lean ====
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  dot_S1024x1024_S1024x1024_S1024x1024_1_0_0_1_n_n_wf : DotDims.WF S1024x1024 S1024x1024 S1024x1024 [1] [0] [0] [1] [] []

variable [Facts]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def fn {F : FTy → Type} [FloatOps F] (main_arg0 : FVec F S1024x1024 .f32) (main_arg1 : FVec F S1024x1024 .f32) : IVec S1024x1024 1 :=
  let main_v0 : FVec F S1024x1024 .f32 := (fun l r => Host.dotGeneral dot_S1024x1024_S1024x1024_S1024x1024_1_0_0_1_n_n none l r) main_arg0 main_arg1
  let main_v1 : FVec F S1024x1024 .f32 := Host.absf main_v0
  let main_cst : FVec F S_ .f32 := constant S_ .f32 0x42700000#32
  let main_v2 : FVec F S1024x1024 .f32 := broadcastInDim S1024x1024 ![] bcast_S_S1024x1024 main_cst
  let main_v3 : IVec S1024x1024 1 := cmpf .ole main_v1 main_v2
  main_v3
-- ==== Kernel.lean ====
abbrev S128x1024 : Shape := ⟨2, ![128, 1024]⟩
abbrev S1024x1024 : Shape := ⟨2, ![1024, 1024]⟩
abbrev S1024x128 : Shape := ⟨2, ![1024, 128]⟩
abbrev S8x1024x128 : Shape := ⟨3, ![8, 1024, 128]⟩
abbrev S8x128x128 : Shape := ⟨3, ![8, 128, 128]⟩
abbrev S_ : Shape := ⟨0, ![]⟩
abbrev S8 : Shape := ⟨1, ![8]⟩
abbrev S1 : Shape := ⟨1, ![1]⟩
abbrev S1x1024x128 : Shape := ⟨3, ![1, 1024, 128]⟩
abbrev S128x128 : Shape := ⟨2, ![128, 128]⟩
abbrev S1x128x128 : Shape := ⟨3, ![1, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S128x1024, .f32⟩
  | .hbm, ⟨1, _⟩ => ⟨S1024x1024, .f32⟩
  | .hbm, ⟨2, _⟩ => ⟨S1024x128, .f32⟩
  | .local _ .vmem, ⟨0, _⟩ => ⟨S128x1024, .f32⟩
  | .local _ .vmem, ⟨1, _⟩ => ⟨S8x1024x128, .f32⟩
  | .local _ .vmem, ⟨2, _⟩ => ⟨S128x1024, .f32⟩
  | .local _ .vmem, ⟨3, _⟩ => ⟨S8x128x128, .bf16⟩
  | .local _ .vmem, ⟨4, _⟩ => ⟨S8x128x128, .bf16⟩
  | .local _ .vmem, ⟨5, _⟩ => ⟨S8x128x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_87 : BitVec 32 := 0#32
  let v93 : BitVec 1 := Scalar.cmpi .eq v2 c0_i32_87
  let v94 : BitVec 32 := Scalar.extui v93
  let c0_i32_90 : BitVec 32 := 0#32
  let v95 : BitVec 1 := Scalar.cmpi .ne v94 c0_i32_90
  v95

def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_86 : BitVec 32 := 128#32
  let v92 : BitVec 32 := Scalar.muli v2 c128_i32_86
  let c0_i32_532 : BitVec 32 := 0#32
  ![v92.toNat, 0]
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_94 : BitVec 32 := 0#32
  let v100 : BitVec 1 := Scalar.cmpi .ne v2 c0_i32_94
  let v101 : BitVec 32 := Scalar.extui v100
  let c0_i32_97 : BitVec 32 := 0#32
  let v102 : BitVec 1 := Scalar.cmpi .ne v101 c0_i32_97
  v102

def k0_off2 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev8 : Nat :=
  let c0_i32_534 : BitVec 32 := 0#32
  let c0_i32_532 : BitVec 32 := 0#32
  let c1_i32_533 : BitVec 32 := 1#32
  let v549 : BitVec 32 := Scalar.muli c0_i32_532 c1_i32_533
  let v550 : BitVec 32 := Scalar.addi c0_i32_534 v549
  v550.toNat
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_114 : BitVec 32 := 1#32
  let v123 : BitVec 1 := Scalar.cmpi .eq v2 c1_i32_114
  let v124 : BitVec 32 := Scalar.extui v123
  let c0_i32_117 : BitVec 32 := 0#32
  let v125 : BitVec 1 := Scalar.cmpi .ne v124 c0_i32_117
  v125

def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_113 : BitVec 32 := 128#32
  let v122 : BitVec 32 := Scalar.muli v2 c128_i32_113
  let c0_i32_532 : BitVec 32 := 0#32
  ![v122.toNat, 0]
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_121 : BitVec 32 := 1#32
  let v130 : BitVec 1 := Scalar.cmpi .ne v2 c1_i32_121
  let v131 : BitVec 32 := Scalar.extui v130
  let c0_i32_124 : BitVec 32 := 0#32
  let v132 : BitVec 1 := Scalar.cmpi .ne v131 c0_i32_124
  v132

def k0_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev9 : Nat :=
  let c0_i32_534 : BitVec 32 := 0#32
  let c1_i32_532 : BitVec 32 := 1#32
  let c1_i32_533 : BitVec 32 := 1#32
  let v549 : BitVec 32 := Scalar.muli c1_i32_532 c1_i32_533
  let v550 : BitVec 32 := Scalar.addi c0_i32_534 v549
  v550.toNat
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_141 : BitVec 32 := 2#32
  let v153 : BitVec 1 := Scalar.cmpi .eq v2 c2_i32_141
  let v154 : BitVec 32 := Scalar.extui v153
  let c0_i32_144 : BitVec 32 := 0#32
  let v155 : BitVec 1 := Scalar.cmpi .ne v154 c0_i32_144
  v155

def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_140 : BitVec 32 := 128#32
  let v152 : BitVec 32 := Scalar.muli v2 c128_i32_140
  let c0_i32_532 : BitVec 32 := 0#32
  ![v152.toNat, 0]
def k0_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_148 : BitVec 32 := 2#32
  let v160 : BitVec 1 := Scalar.cmpi .ne v2 c2_i32_148
  let v161 : BitVec 32 := Scalar.extui v160
  let c0_i32_151 : BitVec 32 := 0#32
  let v162 : BitVec 1 := Scalar.cmpi .ne v161 c0_i32_151
  v162

def k0_off8 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off9 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev10 : Nat :=
  let c0_i32_534 : BitVec 32 := 0#32
  let c2_i32_532 : BitVec 32 := 2#32
  let c1_i32_533 : BitVec 32 := 1#32
  let v549 : BitVec 32 := Scalar.muli c2_i32_532 c1_i32_533
  let v550 : BitVec 32 := Scalar.addi c0_i32_534 v549
  v550.toNat
def k0_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_168 : BitVec 32 := 3#32
  let v183 : BitVec 1 := Scalar.cmpi .eq v2 c3_i32_168
  let v184 : BitVec 32 := Scalar.extui v183
  let c0_i32_171 : BitVec 32 := 0#32
  let v185 : BitVec 1 := Scalar.cmpi .ne v184 c0_i32_171
  v185

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_167 : BitVec 32 := 128#32
  let v182 : BitVec 32 := Scalar.muli v2 c128_i32_167
  let c0_i32_532 : BitVec 32 := 0#32
  ![v182.toNat, 0]
def k0_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_175 : BitVec 32 := 3#32
  let v190 : BitVec 1 := Scalar.cmpi .ne v2 c3_i32_175
  let v191 : BitVec 32 := Scalar.extui v190
  let c0_i32_178 : BitVec 32 := 0#32
  let v192 : BitVec 1 := Scalar.cmpi .ne v191 c0_i32_178
  v192

def k0_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev11 : Nat :=
  let c0_i32_534 : BitVec 32 := 0#32
  let c3_i32_532 : BitVec 32 := 3#32
  let c1_i32_533 : BitVec 32 := 1#32
  let v549 : BitVec 32 := Scalar.muli c3_i32_532 c1_i32_533
  let v550 : BitVec 32 := Scalar.addi c0_i32_534 v549
  v550.toNat
def k0_cond18 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_195 : BitVec 32 := 4#32
  let v213 : BitVec 1 := Scalar.cmpi .eq v2 c4_i32_195
  let v214 : BitVec 32 := Scalar.extui v213
  let c0_i32_198 : BitVec 32 := 0#32
  let v215 : BitVec 1 := Scalar.cmpi .ne v214 c0_i32_198
  v215

def k0_off13 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_194 : BitVec 32 := 128#32
  let v212 : BitVec 32 := Scalar.muli v2 c128_i32_194
  let c0_i32_532 : BitVec 32 := 0#32
  ![v212.toNat, 0]
def k0_cond20 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_202 : BitVec 32 := 4#32
  let v220 : BitVec 1 := Scalar.cmpi .ne v2 c4_i32_202
  let v221 : BitVec 32 := Scalar.extui v220
  let c0_i32_205 : BitVec 32 := 0#32
  let v222 : BitVec 1 := Scalar.cmpi .ne v221 c0_i32_205
  v222

def k0_off14 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off15 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev12 : Nat :=
  let c0_i32_534 : BitVec 32 := 0#32
  let c4_i32_532 : BitVec 32 := 4#32
  let c1_i32_533 : BitVec 32 := 1#32
  let v549 : BitVec 32 := Scalar.muli c4_i32_532 c1_i32_533
  let v550 : BitVec 32 := Scalar.addi c0_i32_534 v549
  v550.toNat
def k0_cond22 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_222 : BitVec 32 := 5#32
  let v243 : BitVec 1 := Scalar.cmpi .eq v2 c5_i32_222
  let v244 : BitVec 32 := Scalar.extui v243
  let c0_i32_225 : BitVec 32 := 0#32
  let v245 : BitVec 1 := Scalar.cmpi .ne v244 c0_i32_225
  v245

def k0_off16 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_221 : BitVec 32 := 128#32
  let v242 : BitVec 32 := Scalar.muli v2 c128_i32_221
  let c0_i32_532 : BitVec 32 := 0#32
  ![v242.toNat, 0]
def k0_cond24 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_229 : BitVec 32 := 5#32
  let v250 : BitVec 1 := Scalar.cmpi .ne v2 c5_i32_229
  let v251 : BitVec 32 := Scalar.extui v250
  let c0_i32_232 : BitVec 32 := 0#32
  let v252 : BitVec 1 := Scalar.cmpi .ne v251 c0_i32_232
  v252

def k0_off17 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev13 : Nat :=
  let c0_i32_534 : BitVec 32 := 0#32
  let c5_i32_532 : BitVec 32 := 5#32
  let c1_i32_533 : BitVec 32 := 1#32
  let v549 : BitVec 32 := Scalar.muli c5_i32_532 c1_i32_533
  let v550 : BitVec 32 := Scalar.addi c0_i32_534 v549
  v550.toNat
def k0_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_249 : BitVec 32 := 6#32
  let v273 : BitVec 1 := Scalar.cmpi .eq v2 c6_i32_249
  let v274 : BitVec 32 := Scalar.extui v273
  let c0_i32_252 : BitVec 32 := 0#32
  let v275 : BitVec 1 := Scalar.cmpi .ne v274 c0_i32_252
  v275

def k0_off19 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_248 : BitVec 32 := 128#32
  let v272 : BitVec 32 := Scalar.muli v2 c128_i32_248
  let c0_i32_532 : BitVec 32 := 0#32
  ![v272.toNat, 0]
def k0_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_256 : BitVec 32 := 6#32
  let v280 : BitVec 1 := Scalar.cmpi .ne v2 c6_i32_256
  let v281 : BitVec 32 := Scalar.extui v280
  let c0_i32_259 : BitVec 32 := 0#32
  let v282 : BitVec 1 := Scalar.cmpi .ne v281 c0_i32_259
  v282

def k0_off20 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off21 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev14 : Nat :=
  let c0_i32_534 : BitVec 32 := 0#32
  let c6_i32_532 : BitVec 32 := 6#32
  let c1_i32_533 : BitVec 32 := 1#32
  let v549 : BitVec 32 := Scalar.muli c6_i32_532 c1_i32_533
  let v550 : BitVec 32 := Scalar.addi c0_i32_534 v549
  v550.toNat
def k0_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_276 : BitVec 32 := 7#32
  let v303 : BitVec 1 := Scalar.cmpi .eq v2 c7_i32_276
  let v304 : BitVec 32 := Scalar.extui v303
  let c0_i32_279 : BitVec 32 := 0#32
  let v305 : BitVec 1 := Scalar.cmpi .ne v304 c0_i32_279
  v305

def k0_off22 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_275 : BitVec 32 := 128#32
  let v302 : BitVec 32 := Scalar.muli v2 c128_i32_275
  let c0_i32_532 : BitVec 32 := 0#32
  ![v302.toNat, 0]
def k0_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_283 : BitVec 32 := 7#32
  let v310 : BitVec 1 := Scalar.cmpi .ne v2 c7_i32_283
  let v311 : BitVec 32 := Scalar.extui v310
  let c0_i32_286 : BitVec 32 := 0#32
  let v312 : BitVec 1 := Scalar.cmpi .ne v311 c0_i32_286
  v312

def k0_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_535 : BitVec 32 := 0#32
  let c0_i32_536 : BitVec 32 := 0#32
  ![v2.toNat, 0, 0]
def k0_dev15 : Nat :=
  let c0_i32_534 : BitVec 32 := 0#32
  let c7_i32_532 : BitVec 32 := 7#32
  let c1_i32_533 : BitVec 32 := 1#32
  let v549 : BitVec 32 := Scalar.muli c7_i32_532 c1_i32_533
  let v550 : BitVec 32 := Scalar.addi c0_i32_534 v549
  v550.toNat
def k0_off25 (d0 : Dev nD) (c1_i32_289 : BitVec 32) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_288 : BitVec 32 := 8#32
  let v314 : BitVec 32 := Scalar.addi v2 c8_i32_288
  let v315 : BitVec 32 := Scalar.subi v314 c1_i32_289
  let c8_i32_290 : BitVec 32 := 8#32
  let v316 : BitVec 32 := Scalar.remsi v315 c8_i32_290
  ![v316.toNat]
def k0_off26 (d0 : Dev nD) (c1_i32_289 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_288 : BitVec 32 := 8#32
  let v314 : BitVec 32 := Scalar.addi v2 c8_i32_288
  let v315 : BitVec 32 := Scalar.subi v314 c1_i32_289
  let c8_i32_290 : BitVec 32 := 8#32
  let v316 : BitVec 32 := Scalar.remsi v315 c8_i32_290
  let c0_i32_296 : BitVec 32 := 0#32
  let c0_i32_297 : BitVec 32 := 0#32
  ![v316.toNat, 0, 0]
def k0_off27 (d0 : Dev nD) (c1_i32_289 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_288 : BitVec 32 := 8#32
  let v314 : BitVec 32 := Scalar.addi v2 c8_i32_288
  let v315 : BitVec 32 := Scalar.subi v314 c1_i32_289
  let c8_i32_290 : BitVec 32 := 8#32
  let v316 : BitVec 32 := Scalar.remsi v315 c8_i32_290
  let v325 : Index := Scalar.indexCast v316
  let c0_300 : Index := 0#32
  let c0_301 : Index := 0#32
  ![v325.toNat, 0, 0]
def k0_off28 (d0 : Dev nD) (c1_i32_289 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_288 : BitVec 32 := 8#32
  let v314 : BitVec 32 := Scalar.addi v2 c8_i32_288
  let v315 : BitVec 32 := Scalar.subi v314 c1_i32_289
  let c8_i32_290 : BitVec 32 := 8#32
  let v316 : BitVec 32 := Scalar.remsi v315 c8_i32_290
  let c128_i32_305 : BitVec 32 := 128#32
  let v332 : BitVec 32 := Scalar.muli v316 c128_i32_305
  let c0_i32_308 : BitVec 32 := 0#32
  ![v332.toNat, 0]
def k0_cond33 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_91 : BitVec 32 := 0#32
  let v96 : BitVec 1 := Scalar.cmpi .eq v2 c0_i32_91
  let v482 : BitVec 32 := Scalar.extui v96
  let c0_i32_451 : BitVec 32 := 0#32
  let v483 : BitVec 1 := Scalar.cmpi .ne v482 c0_i32_451
  v483

def k0_off29 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_86 : BitVec 32 := 128#32
  let v92 : BitVec 32 := Scalar.muli v2 c128_i32_86
  let c0_i32_532 : BitVec 32 := 0#32
  ![v92.toNat, 0]
def k0_cond34 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_118 : BitVec 32 := 1#32
  let v126 : BitVec 1 := Scalar.cmpi .eq v2 c1_i32_118
  let v484 : BitVec 32 := Scalar.extui v126
  let c0_i32_454 : BitVec 32 := 0#32
  let v485 : BitVec 1 := Scalar.cmpi .ne v484 c0_i32_454
  v485

def k0_off30 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_113 : BitVec 32 := 128#32
  let v122 : BitVec 32 := Scalar.muli v2 c128_i32_113
  let c0_i32_532 : BitVec 32 := 0#32
  ![v122.toNat, 0]
def k0_cond35 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_145 : BitVec 32 := 2#32
  let v156 : BitVec 1 := Scalar.cmpi .eq v2 c2_i32_145
  let v486 : BitVec 32 := Scalar.extui v156
  let c0_i32_457 : BitVec 32 := 0#32
  let v487 : BitVec 1 := Scalar.cmpi .ne v486 c0_i32_457
  v487

def k0_off31 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_140 : BitVec 32 := 128#32
  let v152 : BitVec 32 := Scalar.muli v2 c128_i32_140
  let c0_i32_532 : BitVec 32 := 0#32
  ![v152.toNat, 0]
def k0_cond36 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_172 : BitVec 32 := 3#32
  let v186 : BitVec 1 := Scalar.cmpi .eq v2 c3_i32_172
  let v488 : BitVec 32 := Scalar.extui v186
  let c0_i32_460 : BitVec 32 := 0#32
  let v489 : BitVec 1 := Scalar.cmpi .ne v488 c0_i32_460
  v489

def k0_off32 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_167 : BitVec 32 := 128#32
  let v182 : BitVec 32 := Scalar.muli v2 c128_i32_167
  let c0_i32_532 : BitVec 32 := 0#32
  ![v182.toNat, 0]
def k0_cond37 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_199 : BitVec 32 := 4#32
  let v216 : BitVec 1 := Scalar.cmpi .eq v2 c4_i32_199
  let v490 : BitVec 32 := Scalar.extui v216
  let c0_i32_463 : BitVec 32 := 0#32
  let v491 : BitVec 1 := Scalar.cmpi .ne v490 c0_i32_463
  v491

def k0_off33 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_194 : BitVec 32 := 128#32
  let v212 : BitVec 32 := Scalar.muli v2 c128_i32_194
  let c0_i32_532 : BitVec 32 := 0#32
  ![v212.toNat, 0]
def k0_cond38 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_226 : BitVec 32 := 5#32
  let v246 : BitVec 1 := Scalar.cmpi .eq v2 c5_i32_226
  let v492 : BitVec 32 := Scalar.extui v246
  let c0_i32_466 : BitVec 32 := 0#32
  let v493 : BitVec 1 := Scalar.cmpi .ne v492 c0_i32_466
  v493

def k0_off34 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_221 : BitVec 32 := 128#32
  let v242 : BitVec 32 := Scalar.muli v2 c128_i32_221
  let c0_i32_532 : BitVec 32 := 0#32
  ![v242.toNat, 0]
def k0_cond39 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_253 : BitVec 32 := 6#32
  let v276 : BitVec 1 := Scalar.cmpi .eq v2 c6_i32_253
  let v494 : BitVec 32 := Scalar.extui v276
  let c0_i32_469 : BitVec 32 := 0#32
  let v495 : BitVec 1 := Scalar.cmpi .ne v494 c0_i32_469
  v495

def k0_off35 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_248 : BitVec 32 := 128#32
  let v272 : BitVec 32 := Scalar.muli v2 c128_i32_248
  let c0_i32_532 : BitVec 32 := 0#32
  ![v272.toNat, 0]
def k0_cond40 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_280 : BitVec 32 := 7#32
  let v306 : BitVec 1 := Scalar.cmpi .eq v2 c7_i32_280
  let v496 : BitVec 32 := Scalar.extui v306
  let c0_i32_472 : BitVec 32 := 0#32
  let v497 : BitVec 1 := Scalar.cmpi .ne v496 c0_i32_472
  v497

def k0_off36 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c128_i32_275 : BitVec 32 := 128#32
  let v302 : BitVec 32 := Scalar.muli v2 c128_i32_275
  let c0_i32_532 : BitVec 32 := 0#32
  ![v302.toNat, 0]
def k0_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_98 : BitVec 32 := 0#32
  let v103 : BitVec 1 := Scalar.cmpi .ne v2 c0_i32_98
  let v533 : BitVec 32 := Scalar.extui v103
  let c0_i32_510 : BitVec 32 := 0#32
  let v534 : BitVec 1 := Scalar.cmpi .ne v533 c0_i32_510
  v534

def k0_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_125 : BitVec 32 := 1#32
  let v133 : BitVec 1 := Scalar.cmpi .ne v2 c1_i32_125
  let v535 : BitVec 32 := Scalar.extui v133
  let c0_i32_513 : BitVec 32 := 0#32
  let v536 : BitVec 1 := Scalar.cmpi .ne v535 c0_i32_513
  v536

def k0_off38 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_152 : BitVec 32 := 2#32
  let v163 : BitVec 1 := Scalar.cmpi .ne v2 c2_i32_152
  let v537 : BitVec 32 := Scalar.extui v163
  let c0_i32_516 : BitVec 32 := 0#32
  let v538 : BitVec 1 := Scalar.cmpi .ne v537 c0_i32_516
  v538

def k0_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_179 : BitVec 32 := 3#32
  let v193 : BitVec 1 := Scalar.cmpi .ne v2 c3_i32_179
  let v539 : BitVec 32 := Scalar.extui v193
  let c0_i32_519 : BitVec 32 := 0#32
  let v540 : BitVec 1 := Scalar.cmpi .ne v539 c0_i32_519
  v540

def k0_off40 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_206 : BitVec 32 := 4#32
  let v223 : BitVec 1 := Scalar.cmpi .ne v2 c4_i32_206
  let v541 : BitVec 32 := Scalar.extui v223
  let c0_i32_522 : BitVec 32 := 0#32
  let v542 : BitVec 1 := Scalar.cmpi .ne v541 c0_i32_522
  v542

def k0_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_233 : BitVec 32 := 5#32
  let v253 : BitVec 1 := Scalar.cmpi .ne v2 c5_i32_233
  let v543 : BitVec 32 := Scalar.extui v253
  let c0_i32_525 : BitVec 32 := 0#32
  let v544 : BitVec 1 := Scalar.cmpi .ne v543 c0_i32_525
  v544

def k0_off42 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_260 : BitVec 32 := 6#32
  let v283 : BitVec 1 := Scalar.cmpi .ne v2 c6_i32_260
  let v545 : BitVec 32 := Scalar.extui v283
  let c0_i32_528 : BitVec 32 := 0#32
  let v546 : BitVec 1 := Scalar.cmpi .ne v545 c0_i32_528
  v546

def k0_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
def k0_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_287 : BitVec 32 := 7#32
  let v313 : BitVec 1 := Scalar.cmpi .ne v2 c7_i32_287
  let v547 : BitVec 32 := Scalar.extui v313
  let c0_i32_531 : BitVec 32 := 0#32
  let v548 : BitVec 1 := Scalar.cmpi .ne v547 c0_i32_531
  v548

def k0_off44 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_536 : BitVec 32 := 0#32
  let c0_i32_537 : BitVec 32 := 0#32
  ![v2.toNat, 0, 0]
-- ==== ReferenceIdeal.lean ====
abbrev S1024x1024 : Shape := ⟨2, ![1024, 1024]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S_, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S1024x1024, .f32⟩
  | .hbm, ⟨16, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S_, .f32⟩
  | .hbm, ⟨6, _⟩ => ⟨S1024x1024, .f32⟩
  | .hbm, ⟨7, _⟩ => ⟨S1024x1024, .f32⟩
  | .hbm, ⟨8, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Slots.lean ====
/-
# Pieces of a buffer, and the steps that use them

A core holds a piece of one of its buffers — the elements under a slice of it — either with known contents (`Holds`) or
with contents left open (`Any`). The lemmas here are the steps of a program on such pieces: a load, a store, the start
of a local copy, and the wait for it. Each is stated over a continuation, so a run is a chain of them.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

/-! ## The resource algebra: the launch's staging cells, the exchange's rounds, the local copies' counters -/

/-- The rounds of the exchange; a duty is named by the device that pays it. -/
abbrev UB : Type := URounds (GSem nD τ sig) (Dev nD)
abbrev UU : Type := UR sig nD τ × (UB × Counters)

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) :=
  (Emb.inl : Emb UB (UB × Counters)).trans (embR (A := UR sig nD τ))
instance ER_landsIn : (ER (F := F)).LandsIn (upEmb : UEmb _ 𝕄) := by unfold ER embR; infer_instance
abbrev EC : UEmb Counters (MT nD τ sig Unit (Elt F) ℕ UU ℕ) := countersEmb

/-! ## Pieces -/

section Pieces
variable (c : Dev nD) {sp : Space} {s : Shape} {e : EltTy}

/-- Core `c` owns the elements under `m`, and they read `V`. -/
def Holds (m : Memref sig .tc sp s e) (V : s.Idx → Elt F e) : sProp 𝕄 :=
  iprop(∃ f : Buf (Elt F) (m.view.loc (c : Thread nD τ)), (m.view.loc (c : Thread nD τ) ↦[m.view.set]{fullShare} f) ∗ ⌜m.view.read (Elt F) f = V⌝)

/-- Core `c` owns the elements under `m`, whatever they are. -/
def Any (m : Memref sig .tc sp s e) : sProp 𝕄 :=
  iprop(∃ f : Buf (Elt F) (m.view.loc (c : Thread nD τ)), m.view.loc (c : Thread nD τ) ↦[m.view.set]{fullShare} f)

instance holds_storable (m : Memref sig .tc sp s e) (V : s.Idx → Elt F e) : BI.Storable (upEmb : UEmb _ 𝕄) (Holds c m V) := by
  unfold Holds; infer_instance
instance any_storable (m : Memref sig .tc sp s e) : BI.Storable (upEmb : UEmb _ 𝕄) (Any (F := F) c m) := by
  unfold Any; infer_instance

omit [FloatOps F] in
theorem holds_any (m : Memref sig .tc sp s e) (V : s.Idx → Elt F e) : Holds c m V ⊢ Any c m := by
  unfold Holds Any; iintro ⟨%f, H, -⟩; iexists f; iexact H

omit [FloatOps F] in
theorem any_intro (m : Memref sig .tc sp s e) (f : Buf (Elt F) (m.view.loc (c : Thread nD τ))) :
    (m.view.loc (c : Thread nD τ) ↦[m.view.set]{fullShare} f) ⊢ Any c m := by
  unfold Any; iintro H; iexists f; iexact H

omit [FloatOps F] in
theorem holds_intro (m : Memref sig .tc sp s e) (f : Buf (Elt F) (m.view.loc (c : Thread nD τ))) {V : s.Idx → Elt F e}
    (h : m.view.read (Elt F) f = V) :
    (m.view.loc (c : Thread nD τ) ↦[m.view.set]{fullShare} f) ⊢ Holds c m V := by
  unfold Holds; iintro H; iexists f; isplitl; · iexact H
  ipureintro; exact h

omit [FloatOps F] in
/-- A piece is the same piece under a squeezed name, and it reads the re-indexed contents. -/
theorem holds_squeeze (m : Memref sig .tc sp s e) {s' : Shape} (hq : s.Squeezes s') (V : s.Idx → Elt F e) :
    Holds c m V ⊢ Holds c (m.squeeze s' hq) (fun y => V (Shape.reshapeEquiv hq.numel_eq y)) := by
  unfold Holds; iintro ⟨%f, H, %h⟩
  iexists f
  isplitl
  · rw [show (m.squeeze s' hq).view.set = m.view.set from View.set_reshape _ _]; iexact H
  · ipureintro; subst h; rfl

omit [FloatOps F] in
/-- and back. -/
theorem holds_unsqueeze (m : Memref sig .tc sp s e) {s' : Shape} (hq : s.Squeezes s') (V : s.Idx → Elt F e) :
    Holds c (m.squeeze s' hq) (fun y => V (Shape.reshapeEquiv hq.numel_eq y)) ⊢ Holds c m V := by
  unfold Holds; iintro ⟨%f, H, %h⟩
  iexists f
  isplitl
  · rw [show (m.squeeze s' hq).view.set = m.view.set from View.set_reshape _ _]; iexact H
  · ipureintro
    funext x
    have := congrFun h ((Shape.reshapeEquiv hq.numel_eq).symm x)
    simp only [Equiv.apply_symm_apply] at this
    rw [← this]
    show _ = m.view.read (Elt F) f (Shape.reshapeEquiv hq.numel_eq ((Shape.reshapeEquiv hq.numel_eq).symm x))
    rw [Equiv.apply_symm_apply]

omit [FloatOps F] in
theorem any_squeeze (m : Memref sig .tc sp s e) {s' : Shape} (hq : s.Squeezes s') :
    (Any c m : sProp 𝕄) = Any c (m.squeeze s' hq) := by
  unfold Any
  rw [show (m.squeeze s' hq).view.set = m.view.set from View.set_reshape _ _]

end Pieces

/-! ## Steps on pieces -/

section Steps
variable {defs : Defs nD τ sig (Elt F) Λ₀} (𝒱 : Variants) (c : Dev nD) (bd : Option 𝒱.V)
variable {α : Type} {Q : α → sProp (MT nD τ sig Unit (Elt F) ℕ UU ℕ)}
variable {cs : CoreSpace} {sp sp' : Space} {s : Shape} {e : EltTy}

/-- A load of a piece reads its contents. -/
theorem wp_loadH {m : Memref sig .tc cs s e} {r : Rect s} {hl : m.view.LoadsAt r}
    {k : (r.shape.Idx → Elt F e) → Prog (TpuEff nD τ sig (Elt F) Λ₀ .tc) α} (hr : ∀ a, r.stride a = 1) {V : r.shape.Idx → Elt F e} :
    Holds c (m.slice r hr) V ⊢ iprop((Holds c (m.slice r hr) V -∗ wp frame (wpE defs 𝒱 (c : Thread nD τ) bd) Set.univ (k V) Q) -∗ wp frame (wpE defs 𝒱 (c : Thread nD τ) bd) Set.univ (.op (.load m r hl) k) Q) := by
  iintro H Hk
  unfold Holds
  icases H with ⟨%f, H, %h⟩
  iapply (wp_load_rect 𝒱 (c : Thread nD τ) bd Set.univ (m := m) (r := r) (S := (m.slice r hr).view.set) (Finset.Subset.refl _)) $$ H
  iintro H
  rw [show (m.access r).read (Elt F) f = V from h]
  iapply Hk
  iexists f
  isplitl; · iexact H
  ipureintro; exact h

/-- A load of a piece whose contents are open reads something. -/
theorem wp_loadAny {m : Memref sig .tc cs s e} {r : Rect s} {hl : m.view.LoadsAt r}
    {k : (r.shape.Idx → Elt F e) → Prog (TpuEff nD τ sig (Elt F) Λ₀ .tc) α} (hr : ∀ a, r.stride a = 1) :
    Any c (m.slice r hr) ⊢ iprop((∀ V, Any c (m.slice r hr) -∗ wp frame (wpE defs 𝒱 (c : Thread nD τ) bd) Set.univ (k V) Q) -∗ wp frame (wpE defs 𝒱 (c : Thread nD τ) bd) Set.univ (.op (.load m r hl) k) Q) := by
  iintro H Hk
  unfold Any
  icases H with ⟨%f, H⟩
  iapply (wp_load_rect 𝒱 (c : Thread nD τ) bd Set.univ (m := m) (r := r) (S := (m.slice r hr).view.set) (Finset.Subset.refl _)) $$ H
  iintro H
  iapply Hk
  iexists f
  iexact H

/-- A store to a piece sets its contents. -/
theorem wp_storeAny {m : Memref sig .tc cs s e} {r : Rect s} {w : r.shape.Idx → Elt F e} {hx : (m.access r).Stores Finset.univ}
    {hm : (Finset.univ : Finset r.shape.Idx) = Finset.univ ∨ ∀ a, r.stride a = 1}
    {k : PUnit → Prog (TpuEff nD τ sig (Elt F) Λ₀ .tc) α} (hr : ∀ a, r.stride a = 1) :
    Any c (m.slice r hr) ⊢ iprop((Holds c (m.slice r hr) w -∗ wp frame (wpE defs 𝒱 (c : Thread nD τ) bd) Set.univ (k ⟨⟩) Q) -∗ wp frame (wpE defs 𝒱 (c : Thread nD τ) bd) Set.univ (.op (.store m r w Finset.univ hx hm) k) Q) := by
  iintro H Hk
  unfold Any Holds
  icases H with ⟨%f, H⟩
  iapply (wp_store 𝒱 (c : Thread nD τ) bd Set.univ (m := m) (r := r) (w := w) (Mk := Finset.univ) (S := (m.slice r hr).view.set)
    (Finset.Subset.refl _)) $$ H
  iintro H
  iapply Hk
  iexists _
  isplitl; · iexact H
  ipureintro
  exact View.read_write_univ _ _

/-- A local copy in flight on the semaphore `sm`: at the wait it gives the destination piece rewritten with what the source
    reads, and the source share back. -/
def Fly (sm : SemLoc sig) (N : ℕ) (src : Memref sig .tc sp s e) (dst : Memref sig .tc sp' s e) (q : PosShare TreeShare)
    (fs : Buf (Elt F) (src.view.loc (c : Thread nD τ))) : sProp 𝕄 :=
  iprop(∃ fd : Buf (Elt F) (dst.view.loc (c : Thread nD τ)), Flight EC (c : Thread nD τ) sm () N
    iprop((dst.view.loc (c : Thread nD τ) ↦[dst.view.set]{fullShare} (dst.view.write (Elt F) fd (src.view.read (Elt F) fs) Finset.univ))
      ∗ (src.view.loc (c : Thread nD τ) ↦[src.view.set]{q} fs)))

/-- The start of a local copy, from a share of the source and the destination piece. -/
theorem wp_start {src : Memref sig .tc sp s e} {dst : Memref sig .tc sp' s e} {sm : SemLoc sig}
    {hsrc : src.view.WordExact} {hdst : dst.view.WordExact} {hsem : DmaTarget.Typed sp sm (DmaTarget.here dst : DmaTarget nD τ sig (c : Thread nD τ).2 sp' s e)}
    {k : PUnit → Prog (TpuEff nD τ sig (Elt F) Λ₀ .tc) α} {q : PosShare TreeShare} {fs : Buf (Elt F) (src.view.loc (c : Thread nD τ))}
    (N : ℕ) (hN : dst.view.amount sm = N) (hN0 : 0 < N) :
    iprop((src.view.loc (c : Thread nD τ) ↦[src.view.set]{q} fs) ∗ Any c dst ∗ semVal ((c : Thread nD τ), sm) 0)
      ⊢ iprop((Fly c sm N src dst q fs -∗ wp frame (wpE defs 𝒱 (c : Thread nD τ) bd) Set.univ (k ⟨⟩) Q) -∗ wp frame (wpE defs 𝒱 (c : Thread nD τ) bd) Set.univ (.op (.enqueueDma src (.here dst) sm hsrc hdst hsem) k) Q) := by
  iintro ⟨Hs, Hd, Hv⟩ Hk
  unfold Any
  icases Hd with ⟨%fd, Hd⟩
  iapply (Transfers.wp_dmaLocal EC 𝒱 (c : Thread nD τ) bd (src := src) (dst := dst) (via := ReadAs.same) () N hN hN0 (Finset.Subset.refl _)) $$ [Hs Hd Hv]
  · isplitl [Hs]; · iexact Hs
    isplitl [Hd]; · iexact Hd
    iexact Hv
  iintro H
  iapply Hk
  unfold Fly
  iexists fd
  iexact H

/-- Core `c` owes `O` to other cores' semaphores. -/
def Ow (O : CellTallies nD τ sig Unit) : sProp 𝕄 := iprop(∃ W, owes (c : Thread nD τ) O W)

/-- The wait for a local copy: the destination reads what the source read, the source share is back, the semaphore is at
    zero. -/
theorem wp_landed {src : Memref sig .tc sp s e} {dst : Memref sig .tc sp' s e} {sm : DmaSem sig} {s₁ s₂ : Shape} {e₁ e₂ : EltTy}
    {sp₁ sp₂ : Space} {srcw : Memref sig .tc sp₁ s₁ e₁} {dstw : Memref sig .tc sp₂ s₂ e₂} {hsrc : srcw.view.WordExact} {hdst : dstw.view.WordExact}
    {k : PUnit → Prog (TpuEff nD τ sig (Elt F) Λ₀ .tc) α} {q : PosShare TreeShare} {fs : Buf (Elt F) (src.view.loc (c : Thread nD τ))}
    {N : ℕ} (hN : dstw.view.dmaCredit = N) {O : CellTallies nD τ sig Unit} :
    iprop(Fly c (.dma sm) N src dst q fs ∗ Ow c O ∗ MayWait (c : Thread nD τ) (.dma sm) () O)
      ⊢ iprop((iprop(Holds c dst (src.view.read (Elt F) fs) ∗ (src.view.loc (c : Thread nD τ) ↦[src.view.set]{q} fs)
            ∗ semVal ((c : Thread nD τ), .dma sm) 0 ∗ Ow c O) -∗ wp frame (wpE defs 𝒱 (c : Thread nD τ) bd) Set.univ (k ⟨⟩) Q)
          -∗ wp frame (wpE defs 𝒱 (c : Thread nD τ) bd) Set.univ (.op (.waitDma2 sm srcw dstw hsrc hdst) k) Q) := by
  iintro ⟨H, HO, Hm⟩ Hk
  unfold Fly Ow Holds
  icases H with ⟨%fd, H⟩
  icases HO with ⟨%W, HO⟩
  iapply (Transfers.wp_waitLocalO EC 𝒱 (c : Thread nD τ) bd () hN) $$ [H HO Hm]
  · isplitl [H]; · iexact H
    isplitl [HO]; · iexact HO
    iexact Hm
  iintro ⟨⟨Hd, Hs⟩, Hv, HO⟩
  iapply Hk
  isplitl [Hd]
  · iexists _; isplitl; · iexact Hd
    ipureintro; exact View.read_write_univ _ _
  isplitl [Hs]; · iexact Hs
  isplitl [Hv]; · iexact Hv
  iexists _; iexact HO

end Steps

end Cert.A2A
-- ==== Proof.Protocol.lean ====
/-
# The exchange's protocol

Eight devices. Device `c` computes, for each `t`, the block of the activated product that belongs to device `t`'s columns.
The block for itself it keeps; each other one it copies into slot `c` of device `t`'s landing buffer. Before any copy it
waits until the seven other devices have said, on its barrier semaphore, that they are in the kernel.

The cells:
* the barrier semaphore of device `c`: each other device `d` signals one unit, and hands over its own landing slot `c`;
* the receive semaphore `s` of device `c`: device `s`'s copy credits it, and the slot then holds `s`'s block for `c`;
* the send semaphore `t` of device `c`: the copy to `t` credits it once the source slot may be used again.
-/
module

public import proofs.«01_k».proof.Proof.Slots

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

/-! ## The memory at launch -/

variable (m : (ℓ : Loc nD τ sig) → Buf (Elt F) ℓ) (ρ : Dev nD → PrngReg)

/-- Arbitrary contents, every semaphore counter zero, arbitrary generator registers. -/
def s₀ : MemSt nD τ sig (Elt F) := ⟨m, fun _ => 0, ρ⟩

/-! ## The pieces of the buffers -/

theorem inb_slot (t : Fin 8) : ∀ a, (![t.val, 0, 0] : Fin 3 → Nat) a + S1x128x128.size a ≤ S8x128x128.size a := by
  revert t; decide
theorem inb_wslot (t : Fin 8) : ∀ a, (![t.val, 0, 0] : Fin 3 → Nat) a + S1x1024x128.size a ≤ S8x1024x128.size a := by
  revert t; decide
theorem inb_wcol (t : Fin 8) : ∀ a, (![0, 128 * t.val] : Fin 2 → Nat) a + S1024x128.size a ≤ S1024x1024.size a := by
  revert t; decide
theorem inb_acol (t : Fin 8) : ∀ a, (![0, 128 * t.val] : Fin 2 → Nat) a + S128x128.size a ≤ S128x1024.size a := by
  revert t; decide
theorem inb_orow (t : Fin 8) : ∀ a, (![128 * t.val, 0] : Fin 2 → Nat) a + S128x128.size a ≤ S1024x128.size a := by
  revert t; decide
theorem inb_sem (t : Fin 8) : ∀ a, (![t.val] : Fin 1 → Nat) a + S1.size a ≤ S8.size a := by
  revert t; decide

abbrev xM : Memref sig .tc .hbm S128x1024 .f32 := Memref.whole main_arg0
abbrev wM : Memref sig .tc .hbm S1024x1024 .f32 := Memref.whole main_arg1
abbrev oM : Memref sig .tc .hbm S1024x128 .f32 := Memref.whole main_v1
abbrev xvM : Memref sig .tc .vmem S128x1024 .f32 := Memref.whole cc0_scratch0
abbrev wrM : Memref sig .tc .vmem S8x1024x128 .f32 := Memref.whole cc0_scratch1
abbrev acM : Memref sig .tc .vmem S128x1024 .f32 := Memref.whole cc0_scratch2
abbrev seM : Memref sig .tc .vmem S8x128x128 .bf16 := Memref.whole cc0_scratch3
abbrev reM : Memref sig .tc .vmem S8x128x128 .bf16 := Memref.whole cc0_scratch4
abbrev stM : Memref sig .tc .vmem S8x128x128 .f32 := Memref.whole cc0_scratch5

section Pieces
variable {sp : Space} {e : EltTy}

/-- Slot `t` of a buffer of eight blocks, -/
abbrev slot (M : Memref sig .tc sp S8x128x128 e) (t : Fin 8) : Memref sig .tc sp S1x128x128 e :=
  M.slice (Rect.unit (s := S8x128x128) ![t.val, 0, 0] S1x128x128.size (inb_slot t)) (fun _ => rfl)
/-- the same as a matrix; -/
abbrev flat (M : Memref sig .tc sp S8x128x128 e) (t : Fin 8) : Memref sig .tc sp S128x128 e :=
  (slot M t).squeeze S128x128 squeezes_S1x128x128_S128x128
/-- slot `t` of the buffer of weight columns, -/
abbrev wslot (t : Fin 8) : Memref sig .tc .vmem S1x1024x128 .f32 :=
  wrM.slice (Rect.unit (s := S8x1024x128) ![t.val, 0, 0] S1x1024x128.size (inb_wslot t)) (fun _ => rfl)
/-- the same as a matrix; -/
abbrev wflat (t : Fin 8) : Memref sig .tc .vmem S1024x128 .f32 := (wslot t).squeeze S1024x128 squeezes_S1x1024x128_S1024x128
/-- column block `t` of the weights, -/
abbrev wcol (t : Fin 8) : Memref sig .tc .hbm S1024x128 .f32 :=
  wM.slice (Rect.unit (s := S1024x1024) ![0, 128 * t.val] S1024x128.size (inb_wcol t)) (fun _ => rfl)
/-- of the product, -/
abbrev acol (t : Fin 8) : Memref sig .tc .vmem S128x128 .f32 :=
  acM.slice (Rect.unit (s := S128x1024) ![0, 128 * t.val] S128x128.size (inb_acol t)) (fun _ => rfl)
/-- row block `t` of the result. -/
abbrev orow (t : Fin 8) : Memref sig .tc .hbm S128x128 .f32 :=
  oM.slice (Rect.unit (s := S1024x128) ![128 * t.val, 0] S128x128.size (inb_orow t)) (fun _ => rfl)

end Pieces

/-! ## The semaphores and cells -/

abbrev barS : Sem sig := (SemArray.scalar (sig.barrier 0 rfl) : Sems sig S_).sem
def xS : DmaSem sig := ⟨0, by decide⟩
def wS (t : Fin 8) : DmaSem sig := ⟨1 + t.val, by revert t; decide⟩
def stS (t : Fin 8) : DmaSem sig := ⟨9 + t.val, by revert t; decide⟩
def seS (t : Fin 8) : DmaSem sig := ⟨17 + t.val, by revert t; decide⟩
def reS (t : Fin 8) : DmaSem sig := ⟨25 + t.val, by revert t; decide⟩

abbrev barG (c : Dev nD) : GSem nD τ sig := ((c : Thread nD τ), .reg barS)
abbrev seG (c : Dev nD) (t : Fin 8) : GSem nD τ sig := ((c : Thread nD τ), .dma (seS t))
abbrev reG (c : Dev nD) (t : Fin 8) : GSem nD τ sig := ((c : Thread nD τ), .dma (reS t))

/-- Semaphore `t` of an array of eight, by its printed name. -/
theorem sem_at {a : SemArray (DmaSem sig) S8} {S : Fin 8 → DmaSem sig}
    (ha : ∀ t, ((a.slice (Rect.unit (s := S8) ![t.val] S1.size (inb_sem t))).squeeze S_ squeezes_S1_S_).sem = S t)
    {off : Fin 1 → ℕ} {inb : ∀ i, off i + S1.size i ≤ S8.size i} (t : Fin 8) (h : off = ![t.val]) :
    ((a.slice (Rect.unit (s := S8) off S1.size inb)).squeeze S_ squeezes_S1_S_).sem = S t := by
  subst h; exact ha t

theorem sem_x : cc0_scratch6.sem = xS := by decide
theorem sem_w (t : Fin 8) : ((cc0_scratch7.slice (Rect.unit (s := S8) ![t.val] S1.size (inb_sem t))).squeeze S_ squeezes_S1_S_).sem = wS t := by
  revert t; decide
theorem sem_st (t : Fin 8) : ((cc0_scratch8.slice (Rect.unit (s := S8) ![t.val] S1.size (inb_sem t))).squeeze S_ squeezes_S1_S_).sem = stS t := by
  revert t; decide
theorem sem_se (t : Fin 8) : ((cc0_scratch9.slice (Rect.unit (s := S8) ![t.val] S1.size (inb_sem t))).squeeze S_ squeezes_S1_S_).sem = seS t := by
  revert t; decide
theorem sem_re (t : Fin 8) : ((cc0_scratch10.slice (Rect.unit (s := S8) ![t.val] S1.size (inb_sem t))).squeeze S_ squeezes_S1_S_).sem = reS t := by
  revert t; decide

/-- Which send semaphore, if any; which receive semaphore, if any. -/
def seIx : SemLoc sig → Option (Fin 8)
  | .dma q => if h : 17 ≤ q.val ∧ q.val < 25 then some ⟨q.val - 17, by omega⟩ else none
  | .reg _ => none
def reIx : SemLoc sig → Option (Fin 8)
  | .dma q => if h : 25 ≤ q.val ∧ q.val < 33 then some ⟨q.val - 25, by omega⟩ else none
  | .reg _ => none

theorem seIx_se (t : Fin 8) : seIx (.dma (seS t)) = some t := by revert t; decide
theorem seIx_re (t : Fin 8) : seIx (.dma (reS t)) = none := by revert t; decide
theorem reIx_re (t : Fin 8) : reIx (.dma (reS t)) = some t := by revert t; decide

/-- What one block's copy credits. -/
abbrev N : ℕ := (flat reM 0).view.dmaCredit
theorem N_pos : 0 < N := View.dmaCredit_pos _ (by decide)

/-! ## The contents -/

/-- Device `c`'s rows of `x`, rounded; -/
def xb (c : Dev nD) : FVec F S128x1024 .bf16 := k0_pay1 (xM.view.read (Elt F) (m ((c : Thread nD τ).loc main_arg0)))
/-- column block `t` of its weights, as one slot of the weight buffer holds it; -/
def wb (c : Dev nD) (t : Fin 8) : Vec F S1x1024x128 .f32 := fun y =>
  (wcol t).view.read (Elt F) (m ((c : Thread nD τ).loc main_arg1))
    ((Shape.reshapeEquiv (squeezes_S1x1024x128_S1024x128).numel_eq).symm y)
/-- their product; -/
def prod (c : Dev nD) (t : Fin 8) : FVec F S128x128 .f32 := k0_pay2 (xb m c) (wb m c t)
/-- the activated block a device keeps for itself; -/
def kept (c : Dev nD) : FVec F S1x128x128 .f32 := k0_pay4 (prod m c c)
/-- the activated block it sends to `t`, rounded; -/
def sent (c : Dev nD) (t : Fin 8) : FVec F S1x128x128 .bf16 := k0_pay5 (prod m c t)
/-- the block of the result that comes from device `s`. -/
def outBlk (c s : Dev nD) : FVec F S1x128x128 .f32 := if s = c then kept m c else k0_pay35 (sent m s c)

/-- One slot's contents as a matrix. -/
def mat {e : EltTy} (V : S1x128x128.Idx → Elt F e) : S128x128.Idx → Elt F e := fun y =>
  V (Shape.reshapeEquiv (squeezes_S1x128x128_S128x128).numel_eq y)

/-! ## The schedule -/

/-- What device `d`'s signal hands device `c`: `d`'s landing slot `c`, and that `d`'s receive cell `c` is in its round. -/
def barPay (c d : Dev nD) : sProp 𝕄 := iprop(Any d (flat reM c) ∗ reached ER (reG d c) 0)
/-- The source slot comes back. -/
def sePay (c : Dev nD) (t : Fin 8) : sProp 𝕄 := Any c (flat seM t)
/-- The landing slot holds the sender's block. -/
def rePay (c : Dev nD) (s : Fin 8) : sProp 𝕄 := Holds c (flat reM s) (mat (sent m s c))

instance barPay_storable (c d : Dev nD) : BI.Storable (upEmb : UEmb _ 𝕄) (barPay (F := F) c d) := by unfold barPay; infer_instance
instance sePay_storable (c : Dev nD) (t : Fin 8) : BI.Storable (upEmb : UEmb _ 𝕄) (sePay (F := F) c t) := by unfold sePay; infer_instance
instance rePay_storable (c : Dev nD) (s : Fin 8) : BI.Storable (upEmb : UEmb _ 𝕄) (rePay m c s) := by unfold rePay; infer_instance

/-- One round on each cell. A device does not signal, send to or receive from itself. -/
def exRd : Rounds.Schedule (GSem nD τ sig) (Dev nD) 𝕄 where
  duties g r :=
    if r = 0 ∧ g.1.2 = .tc then
      if g.2 = .reg barS then Finset.univ.erase g.1.1
      else match seIx g.2, reIx g.2 with
        | some t, _ => if t = g.1.1 then ∅ else {g.1.1}
        | none, some s => if s = g.1.1 then ∅ else {s}
        | none, none => ∅
    else ∅
  unitless _ := False
  amount g _ _ := if g.2 = .reg barS then 1 else N
  payload g _ d :=
    if g.2 = .reg barS then barPay g.1.1 d
    else match seIx g.2, reIx g.2 with
      | some t, _ => sePay g.1.1 t
      | none, some s => rePay m g.1.1 s
      | none, none => iprop(emp)
  amount_pos g _ _ _ := by
    by_cases h : g.2 = .reg barS
    · rw [if_pos h]; exact Nat.one_pos
    · rw [if_neg h]; exact N_pos

instance exRd_payload_storable (g : GSem nD τ sig) (r : ℕ) (d : Dev nD) :
    BI.Storable (upEmb : UEmb _ 𝕄) ((exRd m).payload g r d) := by
  dsimp only [exRd]
  (repeat' split) <;> infer_instance

section Sched
variable (c : Dev nD)

theorem se_ne_bar (t : Fin 8) : (SemLoc.dma (seS t) : SemLoc sig) ≠ .reg barS := fun h => by cases h
theorem re_ne_bar (t : Fin 8) : (SemLoc.dma (reS t) : SemLoc sig) ≠ .reg barS := fun h => by cases h

theorem duties_bar : (exRd m).duties (barG c) 0 = Finset.univ.erase c := by
  dsimp only [exRd]; rw [if_pos ⟨rfl, rfl⟩, if_pos rfl]
theorem duties_se {t : Fin 8} (h : t ≠ c) : (exRd m).duties (seG c t) 0 = {c} := by
  dsimp only [exRd]; rw [if_pos ⟨rfl, rfl⟩, if_neg (se_ne_bar t), seIx_se]; exact if_neg h
theorem duties_re {s : Fin 8} (h : s ≠ c) : (exRd m).duties (reG c s) 0 = {s} := by
  dsimp only [exRd]; rw [if_pos ⟨rfl, rfl⟩, if_neg (re_ne_bar s), seIx_re, reIx_re]; exact if_neg h
theorem duties_later (g : GSem nD τ sig) : ∀ r, 1 ≤ r → (exRd m).duties g r = ∅ :=
  fun r hr => by dsimp only [exRd]; exact if_neg fun h => by omega
theorem duties_se_self (r : ℕ) : (exRd m).duties (seG c c) r = ∅ := by
  dsimp only [exRd]; split
  · rw [if_neg (se_ne_bar c), seIx_se]; exact if_pos rfl
  · rfl
theorem duties_re_self (r : ℕ) : (exRd m).duties (reG c c) r = ∅ := by
  dsimp only [exRd]; split
  · rw [if_neg (re_ne_bar c), seIx_re, reIx_re]; exact if_pos rfl
  · rfl
/-- A semaphore that is neither the barrier nor a send nor a receive semaphore has no duties. -/
theorem duties_none {q : DmaSem sig} (h : seIx (.dma q) = none) (h' : reIx (.dma q) = none) (r : ℕ) :
    (exRd m).duties ((c : Thread nD τ), .dma q) r = ∅ := by
  dsimp only [exRd]; split
  · rw [if_neg (fun h => by cases h), h, h']
  · rfl

theorem amount_bar (d : Dev nD) : (exRd m).amount (barG c) 0 d = 1 := by dsimp only [exRd]; exact if_pos rfl
theorem amount_se (t : Fin 8) (d : Dev nD) : (exRd m).amount (seG c t) 0 d = N := by dsimp only [exRd]; exact if_neg (se_ne_bar t)
theorem amount_re (s : Fin 8) (d : Dev nD) : (exRd m).amount (reG c s) 0 d = N := by dsimp only [exRd]; exact if_neg (re_ne_bar s)

theorem expect_bar : (exRd m).expect (barG c) 0 = 7 := by
  unfold Schedule.expect Schedule.amountOf
  rw [duties_bar, Finset.sum_congr rfl fun d _ => amount_bar m c d, Finset.sum_const, Finset.card_erase_of_mem (Finset.mem_univ c)]
  rfl
theorem expect_se {t : Fin 8} (h : t ≠ c) : (exRd m).expect (seG c t) 0 = N := by
  unfold Schedule.expect Schedule.amountOf; rw [duties_se m c h, Finset.sum_singleton, amount_se]
theorem expect_re {s : Fin 8} (h : s ≠ c) : (exRd m).expect (reG c s) 0 = N := by
  unfold Schedule.expect Schedule.amountOf; rw [duties_re m c h, Finset.sum_singleton, amount_re]

theorem payload_bar (d : Dev nD) : (exRd m).payload (barG c) 0 d = barPay c d := by dsimp only [exRd]; exact if_pos rfl
theorem payload_se (t : Fin 8) (d : Dev nD) : (exRd m).payload (seG c t) 0 d = sePay c t := by
  dsimp only [exRd]; rw [if_neg (se_ne_bar t), seIx_se]
theorem payload_re (s : Fin 8) (d : Dev nD) : (exRd m).payload (reG c s) 0 d = rePay m c s := by
  dsimp only [exRd]; rw [if_neg (re_ne_bar s), seIx_re, reIx_re]

theorem rest_bar : bigSep ((exRd m).duties (barG c) 0 \ ∅) (fun d => (exRd m).payload (barG c) 0 d)
    = bigSep (Finset.univ.erase c) (fun d => barPay (F := F) c d) := by
  rw [Finset.sdiff_empty, duties_bar]; exact bigSep_congr fun d _ => payload_bar m c d
theorem rest_se {t : Fin 8} (h : t ≠ c) : bigSep ((exRd m).duties (seG c t) 0 \ ∅) (fun d => (exRd m).payload (seG c t) 0 d) = sePay (F := F) c t := by
  rw [Finset.sdiff_empty, duties_se m c h, bigSep_singleton, payload_se]
theorem rest_re {s : Fin 8} (h : s ≠ c) : bigSep ((exRd m).duties (reG c s) 0 \ ∅) (fun d => (exRd m).payload (reG c s) 0 d) = rePay m c s := by
  rw [Finset.sdiff_empty, duties_re m c h, bigSep_singleton, payload_re]

end Sched

/-! ## What each device owes; the levels -/

/-- The device `1 + r` places after `c`, and the one `1 + r` places before it. -/
def up (c : Dev nD) (r : Fin 7) : Dev nD := ⟨(c.val + (1 + r.val)) % 8, Nat.mod_lt _ (by decide)⟩
def dn (c : Dev nD) (r : Fin 7) : Dev nD := ⟨((c.val + 7) - r.val) % 8, Nat.mod_lt _ (by decide)⟩

theorem up_ne (c : Dev nD) (r : Fin 7) : up c r ≠ c := by revert c r; decide
theorem dn_ne (c : Dev nD) (r : Fin 7) : dn c r ≠ c := by revert c r; decide

/-- What is owed for the last `n` of the eight blocks: nothing for the device's own. -/
def oRe (c : Dev nD) : ℕ → CellTallies nD τ sig Unit
  | 0 => 0
  | n + 1 => oRe c n + if (7 - n) % 8 = c.val then 0 else tallyAt (reG ⟨(7 - n) % 8, Nat.mod_lt _ (by decide)⟩ c) () N
/-- What is owed with the last `n` of the seven signals still to make: those and all blocks. -/
def oBar (c : Dev nD) : ℕ → CellTallies nD τ sig Unit
  | 0 => oRe c 8
  | n + 1 => oBar c n + tallyAt (barG (up c ⟨(6 - n) % 7, Nat.mod_lt _ (by decide)⟩)) () 1

def L (g : GSem nD τ sig) : Finset Unit := if g.1.2 = .tc then {()} else ∅
/-- Barrier cells at 1, receive cells at 2, everything else at 0. -/
def lv (g : GSem nD τ sig) (_ : Unit) : ℕ := if g.2 = .reg barS then 1 else if (reIx g.2).isSome then 2 else 0

theorem L_of_ne (g : GSem nD τ sig) (h : g.1.2 ≠ .tc) : L g = ∅ := if_neg h
theorem L_tc (c : Dev nD) (sm : SemLoc sig) : L ((c : Thread nD τ), sm) = {()} := if_pos rfl

theorem tally_pos {g g' : GSem nD τ sig} {u : Unit} {k : ℕ} (h : 0 < (tallyAt g' () k : CellTallies nD τ sig Unit) g u) : g = g' := by
  rw [tallyAt_apply] at h
  by_contra hn
  rw [if_neg (fun h' => hn h'.1)] at h
  exact Nat.lt_irrefl 0 h

theorem oRe_pos (c : Dev nD) (n : ℕ) {g : GSem nD τ sig} {u : Unit} (h : 0 < oRe c n g u) : ∃ d : Dev nD, g = reG d c := by
  induction n with
  | zero => exact absurd h (Nat.lt_irrefl 0)
  | succ n ih =>
    unfold oRe at h
    rw [Pi.add_apply, Finsupp.add_apply] at h
    rcases Nat.add_pos_iff_pos_or_pos.mp h with h | h
    · exact ih h
    · split at h
      · exact absurd h (Nat.lt_irrefl 0)
      · exact ⟨_, tally_pos h⟩

theorem oBar_pos (c : Dev nD) (n : ℕ) {g : GSem nD τ sig} {u : Unit} (h : 0 < oBar c n g u) :
    (∃ d : Dev nD, g = reG d c) ∨ ∃ d : Dev nD, g = barG d := by
  induction n with
  | zero => exact .inl (oRe_pos c 8 h)
  | succ n ih =>
    unfold oBar at h
    rw [Pi.add_apply, Finsupp.add_apply] at h
    rcases Nat.add_pos_iff_pos_or_pos.mp h with h | h
    · exact ih h
    · exact .inr ⟨_, tally_pos h⟩

theorem lv_bar (c : Dev nD) (u : Unit) : lv (barG c) u = 1 := if_pos rfl
theorem lv_re (c : Dev nD) (s : Fin 8) (u : Unit) : lv (reG c s) u = 2 := by
  unfold lv; rw [if_neg (re_ne_bar s), reIx_re]; rfl
theorem lv_low (c : Dev nD) {q : DmaSem sig} (h : reIx (.dma q) = none) (u : Unit) : lv ((c : Thread nD τ), .dma q) u = 0 := by
  unfold lv; rw [if_neg (fun h => by cases h), h]; rfl

omit [FloatOps F] in
/-- A device may wait on a semaphore of its own that no other device credits whatever it owes. -/
theorem mayWait_low (c : Dev nD) {q : DmaSem sig} (hq : reIx (.dma q) = none) (n : ℕ) :
    (levAts L lv : sProp 𝕄) ⊢ MayWait (c : Thread nD τ) (.dma q) () (oBar c n) :=
  MayOwe.of_cut (L := L) (lev := lv) 0 (fun p hp => by rw [Finset.mem_singleton.mp hp, L_tc]; exact Finset.mem_singleton_self _)
    (fun g u hg => by rcases oBar_pos c n hg with ⟨d, rfl⟩ | ⟨d, rfl⟩ <;> exact Finset.mem_singleton_self _)
    (fun p hp => by rw [Finset.mem_singleton.mp hp]; exact le_of_eq (lv_low c hq ()))
    (fun g u hg => by
      rcases oBar_pos c n hg with ⟨d, rfl⟩ | ⟨d, rfl⟩
      · rw [lv_re]; decide
      · rw [lv_bar]; decide)

omit [FloatOps F] in
theorem mayWait_low' (c : Dev nD) {q : DmaSem sig} (hq : reIx (.dma q) = none) (n : ℕ) :
    (levAts L lv : sProp 𝕄) ⊢ MayWait (c : Thread nD τ) (.dma q) () (oRe c n) :=
  MayOwe.of_cut (L := L) (lev := lv) 0 (fun p hp => by rw [Finset.mem_singleton.mp hp, L_tc]; exact Finset.mem_singleton_self _)
    (fun g u hg => by obtain ⟨d, rfl⟩ := oRe_pos c n hg; exact Finset.mem_singleton_self _)
    (fun p hp => by rw [Finset.mem_singleton.mp hp]; exact le_of_eq (lv_low c hq ()))
    (fun g u hg => by obtain ⟨d, rfl⟩ := oRe_pos c n hg; rw [lv_re]; decide)

omit [FloatOps F] in
/-- At its barrier wait a device owes blocks only. -/
theorem mayWait_bar (c : Dev nD) (n : ℕ) :
    (levAts L lv : sProp 𝕄) ⊢ MayWait (c : Thread nD τ) (.reg barS) () (oRe c n) :=
  MayOwe.of_cut (L := L) (lev := lv) 1 (fun p hp => by rw [Finset.mem_singleton.mp hp, L_tc]; exact Finset.mem_singleton_self _)
    (fun g u hg => by obtain ⟨d, rfl⟩ := oRe_pos c n hg; exact Finset.mem_singleton_self _)
    (fun p hp => by rw [Finset.mem_singleton.mp hp]; exact le_of_eq (lv_bar c ()))
    (fun g u hg => by obtain ⟨d, rfl⟩ := oRe_pos c n hg; rw [lv_re]; decide)

end Cert.A2A
-- ==== Proof.Steps.lean ====
/-
# The steps of a run

Each lemma is one stretch of the body on one device: it names what the stretch needs and what it leaves. The conditional
stretches — a device keeps its own block and sends the others — are stated for both outcomes at once.
-/
module

public import proofs.«01_k».proof.Proof.Protocol

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ)

abbrev 𝒱₀ : Variants := Variants.none

/-- Device `c` runs `p`, and what it leaves satisfies `Q`. -/
abbrev Run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells and what is known of them -/

/-- A device's semaphores: the barrier, then the transfer semaphores in order. -/
def csem (k : Fin 34) : SemLoc sig := if h : k.val = 0 then .reg barS else .dma ⟨k.val - 1, by have := k.isLt; show k.val - 1 < 33; omega⟩
def kcell (ck : Dev nD × Fin 34) : GSem nD τ sig := ((ck.1 : Thread nD τ), csem ck.2)
def ixSe (t : Fin 8) : Fin 34 := ⟨18 + t.val, by omega⟩
def ixRe (t : Fin 8) : Fin 34 := ⟨26 + t.val, by omega⟩

theorem kcell_bar (c : Dev nD) : kcell (c, 0) = barG c := rfl
theorem kcell_se (c : Dev nD) (t : Fin 8) : kcell (c, ixSe t) = seG c t := by
  unfold kcell; rw [show csem (ixSe t) = .dma (seS t) by revert t; decide]
theorem kcell_re (c : Dev nD) (t : Fin 8) : kcell (c, ixRe t) = reG c t := by
  unfold kcell; rw [show csem (ixRe t) = .dma (reS t) by revert t; decide]

/-- Every cell follows the schedule and is in its first round; the levels are fixed. -/
def Ctx (K : Dev nD × Fin 34 → ℕ) : sProp 𝕄 :=
  iprop((bigSep Finset.univ fun ck : Dev nD × Fin 34 => cellInv ER (exRd m) (K ck) (kcell ck))
    ∗ (bigSep Finset.univ fun ck : Dev nD × Fin 34 => reached ER (kcell ck) 0) ∗ levAts L lv)

variable (K : Dev nD × Fin 34 → ℕ)

instance ctx_persistent : BI.Persistent (Ctx m K) := by unfold Ctx; infer_instance

theorem inv_at (ck : Dev nD × Fin 34) : Ctx m K ⊢ cellInv ER (exRd m) (K ck) (kcell ck) := by
  have h : (bigSep Finset.univ fun ck : Dev nD × Fin 34 => (cellInv ER (exRd m) (K ck) (kcell ck) : sProp 𝕄)) ⊢ cellInv ER (exRd m) (K ck) (kcell ck) :=
    bigSep_elim (Finset.mem_univ ck)
  unfold Ctx; iintro ⟨H, -, -⟩
  iapply h; iexact H
theorem reached_at (ck : Dev nD × Fin 34) : Ctx m K ⊢ reached ER (kcell ck) 0 := by
  have h : (bigSep Finset.univ fun ck : Dev nD × Fin 34 => (reached ER (kcell ck) 0 : sProp 𝕄)) ⊢ reached ER (kcell ck) 0 :=
    bigSep_elim (Finset.mem_univ ck)
  unfold Ctx; iintro ⟨-, H, -⟩
  iapply h; iexact H
theorem lev_at : Ctx m K ⊢ levAts L lv := by unfold Ctx; iintro ⟨-, -, H⟩; iexact H

theorem inv_bar (c : Dev nD) : Ctx m K ⊢ cellInv ER (exRd m) (K (c, 0)) (barG c) := inv_at m K (c, 0)
theorem inv_se (c : Dev nD) (t : Fin 8) : Ctx m K ⊢ cellInv ER (exRd m) (K (c, ixSe t)) (seG c t) := by
  rw [← kcell_se]; exact inv_at m K (c, ixSe t)
theorem inv_re (c : Dev nD) (t : Fin 8) : Ctx m K ⊢ cellInv ER (exRd m) (K (c, ixRe t)) (reG c t) := by
  rw [← kcell_re]; exact inv_at m K (c, ixRe t)
theorem reached_bar (c : Dev nD) : Ctx m K ⊢ reached ER (barG c) 0 := reached_at m K (c, 0)
theorem reached_se (c : Dev nD) (t : Fin 8) : Ctx m K ⊢ reached ER (seG c t) 0 := by
  rw [← kcell_se]; exact reached_at m K (c, ixSe t)
theorem reached_re (c : Dev nD) (t : Fin 8) : Ctx m K ⊢ reached ER (reG c t) 0 := by
  rw [← kcell_re]; exact reached_at m K (c, ixRe t)

/-! ## A conditional stretch -/

/-- A conditional runs if each branch does. -/
theorem run_if {α : Type} {Q : α → sProp 𝕄} (c : Dev nD) {C : Prop} [Decidable C]
    {p : C → Prog (TpuEff nD τ sig (Elt F) Λ₀ .tc) α} {p' : ¬C → Prog (TpuEff nD τ sig (Elt F) Λ₀ .tc) α} {R : sProp 𝕄}
    (h : ∀ h : C, R ⊢ Run c (p h) Q) (h' : ∀ h : ¬C, R ⊢ Run c (p' h) Q) : R ⊢ Run c (if h : C then p h else p' h) Q := by
  by_cases hC : C
  · rw [dif_pos hC]; exact h hC
  · rw [dif_neg hC]; exact h' hC

section Runs
variable {α : Type} {Q : α → sProp (MT nD τ sig Unit (Elt F) ℕ UU ℕ)} (c : Dev nD)
variable {k : PUnit → Prog (TpuEff nD τ sig (Elt F) Λ₀ .tc) α}

/-! ## The handshake -/

/-- The signal to the device `1 + r` places on: it hands over the landing slot that device will write. -/
theorem run_ring (r : Fin 7) (n : ℕ) (hn : 6 - n = r.val) (hn' : n < 7) {d : Dev nD} (hd : d = up c r) :
    iprop(Ctx m K ∗ Ow c (oBar c (n + 1)) ∗ dutyTok ER (barG (up c r)) 0 c ∗ Any c (flat reM (up c r)))
      ⊢ iprop((Ow c (oBar c n) -∗ Run c (k ⟨⟩) Q) -∗ Run c (.op (.semSignal (Dev.tc d) barS (BitVec.toInt 1#32)) k) Q) := by
  subst hd
  have hO : oBar c (n + 1) = oBar c n + tallyAt (barG (up c r)) () 1 := by
    have hr : (⟨(6 - n) % 7, Nat.mod_lt _ (by decide)⟩ : Fin 7) = r := Fin.ext (by show (6 - n) % 7 = r.val; omega)
    show oBar c n + tallyAt (barG (up c ⟨(6 - n) % 7, _⟩)) () 1 = _
    rw [hr]
  iintro ⟨#HC, HO, Ht, HA⟩ Hk
  unfold Ow
  icases HO with ⟨%W, HO⟩
  iapply (Rounds.wp_signal 𝒱₀ ER (exRd m) (c : Thread nD τ) none (dst := (up c r : Thread nD τ)) (κ := K (up c r, 0))
      (d := c) (r := 0) (by rw [duties_bar]; exact Finset.mem_erase.mpr ⟨(up_ne c r).symm, Finset.mem_univ _⟩)
      ((amount_bar m (up c r) c).trans (by decide)) () (oBar c n)
      hO) $$ [HO Ht HA]
  · isplitr; · iapply (inv_bar m K (up c r)); iexact HC
    isplitl [HO]; · iexact HO
    isplitl [Ht]; · iexact Ht
    isplitl [HA]
    · rw [payload_bar]; unfold barPay
      isplitl [HA]; · iexact HA
      iapply (reached_re m K c (up c r)); iexact HC
    · iapply (reached_bar m K (up c r)); iexact HC
  iintro HO
  iapply Hk
  iexists W; iexact HO

/-- The wait for the seven signals. -/
theorem run_barrier :
    iprop(Ctx m K ∗ Ow c (oRe c 8) ∗ cred (tallyAt (barG c) () 7) ∗ atPos ER (barG c) 0 ∅ 0)
      ⊢ iprop((iprop(Ow c (oRe c 8) ∗ semVal (barG c) 0 ∗ bigSep (Finset.univ.erase c) (fun d => barPay (F := F) c d)) -∗ Run c (k ⟨⟩) Q)
        -∗ Run c (.op (.semWait barS (BitVec.toInt 7#32)) k) Q) := by
  iintro ⟨#HC, HO, Hcr, Hat⟩ Hk
  unfold Ow
  icases HO with ⟨%W, HO⟩
  iapply (Rounds.wp_wait_rest_token 𝒱₀ ER (exRd m) (c : Thread nD τ) none (κ := K (c, 0))
      (wpE_semWait_eq 𝒱₀ (c : Thread nD τ) none Set.univ) (Set.mem_univ _) () (O := oRe c 8) (W := W) (R := 0) (m := 0) (T := ∅)
      (by rw [expect_bar]; decide)) $$ [Hcr HO Hat]
  · isplitr; · iapply (inv_bar m K c); iexact HC
    isplitl [Hcr]; · iexact Hcr
    isplitl [HO]; · iexact HO
    isplitr; · iapply (mayWait_bar (F := F) c 8); iapply (lev_at m K); iexact HC
    iexact Hat
  iintro ⟨HO, Hat, -, Hpay⟩
  imod (Rounds.cell_close ER (exRd m) (Set.mem_univ (K (c, 0))) (fun h => h) (R := 0 + 1) (duties_later m (barG c))) $$ [Hat] with Hz
  · isplitr; · iapply (inv_bar m K c); iexact HC
    iexact Hat
  iapply Hk
  isplitl [HO]; · iexists _; iexact HO
  isplitl [Hz]; · iexact Hz
  iapply (Entails.of_eq (rest_bar m c)); iexact Hpay

/-! ## The blocks sent -/

/-- Before the product block for `t` is sent: the source slot, `t`'s landing slot, and the two duties the copy pays. -/
def sendA (t : Fin 8) : sProp 𝕄 :=
  if t = c then iprop(Any c (slot seM c) ∗ semVal (seG c c) 0)
  else iprop(Any c (slot seM t) ∗ Any t (flat reM c) ∗ dutyTok ER (seG c t) 0 c ∗ dutyTok ER (reG t c) 0 c ∗ atPos ER (seG c t) 0 ∅ 0)
/-- The same with the source slot filled. -/
def sendB (t : Fin 8) : sProp 𝕄 :=
  if t = c then iprop(Any c (slot seM c) ∗ semVal (seG c c) 0)
  else iprop(Holds c (flat seM t) (mat (sent m c t)) ∗ Any t (flat reM c) ∗ dutyTok ER (seG c t) 0 c ∗ dutyTok ER (reG t c) 0 c ∗ atPos ER (seG c t) 0 ∅ 0)
/-- The copy is under way. -/
def sendC (t : Fin 8) : sProp 𝕄 :=
  if t = c then iprop(Any c (slot seM c) ∗ semVal (seG c c) 0)
  else iprop(cred (tallyAt (seG c t) () N) ∗ atPos ER (seG c t) 0 ∅ 0)

theorem oRe_step (t : Fin 8) (n : ℕ) (hn : n = 7 - t.val) : oRe c (n + 1) = oRe c n + if t = c then 0 else tallyAt (reG t c) () N := by
  subst hn
  show oRe c (7 - t.val) + _ = _
  have h : (7 - (7 - t.val)) % 8 = t.val := by have := t.isLt; omega
  have h' : (⟨(7 - (7 - t.val)) % 8, Nat.mod_lt _ (by decide)⟩ : Fin 8) = t := Fin.ext h
  rw [h', h]
  congr 1
  exact if_congr Fin.ext_iff.symm rfl rfl

/-- The activated block is put in its source slot unless it is the device's own. -/
theorem run_fill (t : Fin 8) {C : Prop} [Decidable C] (hC : C ↔ ¬ t = c) {off : Fin 3 → ℕ}
    {inb : ∀ a, off a + S1x128x128.size a ≤ S8x128x128.size a} (hoff : off = ![t.val, 0, 0])
    {w : FVec F S1x128x128 .bf16} (hw : w = sent m c t)
    {hl : C → seM.view.LoadsAt (Rect.unit (s := S8x128x128) off S1x128x128.size inb).toLoadRect}
    {hx : C → (seM.access (Rect.unit (s := S8x128x128) off S1x128x128.size inb)).Stores Finset.univ}
    {hm : C → (Finset.univ : Finset (Rect.unit (s := S8x128x128) off S1x128x128.size inb).shape.Idx) = Finset.univ ∨ ∀ a, (Rect.unit (s := S8x128x128) off S1x128x128.size inb).stride a = 1} :
    sendA c t ⊢ iprop((sendB m c t -∗ Run c (k ⟨⟩) Q) -∗ Run c
      (if h : C then .op (.load seM (Rect.unit (s := S8x128x128) off S1x128x128.size inb).toLoadRect (hl h))
        (fun _ => .op (.store seM (Rect.unit (s := S8x128x128) off S1x128x128.size inb) w Finset.univ (hx h) (hm h)) k) else k ⟨⟩) Q) := by
  subst hoff hw
  unfold sendA sendB
  by_cases ht : t = c
  · rw [dif_neg fun h => hC.mp h ht, if_pos ht, if_pos ht]
    iintro HA Hk; iapply Hk; iexact HA
  · rw [dif_pos (hC.mpr ht), if_neg ht, if_neg ht]
    iintro ⟨HA, HR⟩ Hk
    iapply (wp_loadAny 𝒱₀ c none (m := seM) (fun _ => rfl)) $$ HA; iintro %V HA
    iapply (wp_storeAny 𝒱₀ c none (m := seM) (fun _ => rfl)) $$ HA; iintro HA
    iapply Hk
    isplitl [HA]
    · iapply (holds_squeeze c (slot seM t) squeezes_S1x128x128_S128x128 (sent m c t)); iexact HA
    iexact HR

/-- The copy to `t`: its landing slot is written, and the two duties are paid. -/
theorem run_sendTo (t : Fin 8) (ht : ¬ t = c) (n : ℕ) (hn : n = 7 - t.val) {d : Dev nD} (hd : d = t) {off : Fin 3 → ℕ}
    {inb : ∀ a, off a + S1x128x128.size a ≤ S8x128x128.size a} (hoff : off = ![c.val, 0, 0]) {soff : Fin 3 → ℕ}
    {sinb : ∀ a, soff a + S1x128x128.size a ≤ S8x128x128.size a} (hsoff : soff = ![t.val, 0, 0])
    {sS sR : DmaSem sig} (hS : sS = seS t) (hR : sR = reS c)
    {hsc : ((reM.slice (Rect.unit (s := S8x128x128) off S1x128x128.size inb) (fun _ => rfl)).squeeze S128x128 squeezes_S1x128x128_S128x128 : Memref sig (Dev.tc d : Thread nD τ).2.kind .vmem S128x128 .bf16).view.ref.isScScratch = false}
    {hsrc : ((seM.slice (Rect.unit (s := S8x128x128) soff S1x128x128.size sinb) (fun _ => rfl)).squeeze S128x128 squeezes_S1x128x128_S128x128).view.WordExact}
    {hdst : ((reM.slice (Rect.unit (s := S8x128x128) off S1x128x128.size inb) (fun _ => rfl)).squeeze S128x128 squeezes_S1x128x128_S128x128).view.WordExact}
    {hsem : DmaTarget.Typed .vmem (.dma sR) (.remote (Dev.tc d : Thread nD τ) ((reM.slice (Rect.unit (s := S8x128x128) off S1x128x128.size inb) (fun _ => rfl)).squeeze S128x128 squeezes_S1x128x128_S128x128 : Memref sig .tc .vmem S128x128 .bf16) (.dma sS) hsc)} :
    iprop(Ctx m K ∗ sendB m c t ∗ Ow c (oRe c (n + 1)))
      ⊢ iprop((iprop(sendC c t ∗ Ow c (oRe c n)) -∗ Run c (k ⟨⟩) Q) -∗ Run c
        (.op (.enqueueDma ((seM.slice (Rect.unit (s := S8x128x128) soff S1x128x128.size sinb) (fun _ => rfl)).squeeze S128x128 squeezes_S1x128x128_S128x128)
          (.remote (Dev.tc d) ((reM.slice (Rect.unit (s := S8x128x128) off S1x128x128.size inb) (fun _ => rfl)).squeeze S128x128 squeezes_S1x128x128_S128x128) (.dma sS) hsc)
          (.dma sR) hsrc hdst hsem) k) Q) := by
  subst hd hoff hsoff hS hR
  unfold sendB sendC
  rw [if_neg ht, if_neg ht]
  iintro ⟨#HC, ⟨HS, HD, Ht1, Ht2, Hat⟩, HO⟩ Hk
  unfold Ow Holds Any
  icases HS with ⟨%fs, HS, %hfs⟩
  icases HD with ⟨%fd, HD⟩
  icases HO with ⟨%W, HO⟩
  iapply (Rounds.wp_send_pointsTo 𝒱₀ ER (exRd m) (c : Thread nD τ) none (κ₁ := K (c, ixSe d)) (κ₂ := K (d, ixRe c))
    (r₁ := 0) (r₂ := 0) (d₁ := c) (d₂ := c) (fs := fs) (fd := fd)
    (by rw [duties_se m c ht]; exact Finset.mem_singleton_self _) (by rw [duties_re m d (fun h => ht h.symm)]; exact Finset.mem_singleton_self _)
    () () N rfl (amount_se m c d c) (amount_re m d c c) (oRe c n) (O₀ := oRe c (n + 1)) (by rw [oRe_step c d n hn, if_neg ht]) (W := W)
    (by rw [payload_se]; exact any_intro c _ fs)
    (by rw [payload_re]; exact holds_intro d _ _ ((View.read_write_univ _ _).trans hfs))) $$ [HS HD HO Ht1 Ht2]
  · isplitr; · iapply (inv_se m K c d); iexact HC
    isplitr; · iapply (inv_re m K d c); iexact HC
    isplitl [HS]; · iexact HS
    isplitl [HD]; · iexact HD
    isplitl [HO]; · iexact HO
    isplitl [Ht1]; · iexact Ht1
    isplitr; · iapply (reached_se m K c d); iexact HC
    isplitl [Ht2]; · iexact Ht2
    iapply (reached_re m K d c); iexact HC
  iintro ⟨Hc, HO⟩
  iapply Hk
  isplitl [Hc Hat]
  · isplitl [Hc]; · iexact Hc
    iexact Hat
  iexists W; iexact HO

/-- The copy to `t`, unless `t` is the device itself. -/
theorem run_send (t : Fin 8) {C : Prop} [Decidable C] (hC : C ↔ ¬ t = c) (n : ℕ) (hn : n = 7 - t.val) {d : C → Dev nD} (hd : ∀ h, d h = t) {off : Fin 3 → ℕ}
    {inb : C → ∀ a, off a + S1x128x128.size a ≤ S8x128x128.size a} (hoff : C → off = ![c.val, 0, 0]) {soff : Fin 3 → ℕ}
    {sinb : ∀ a, soff a + S1x128x128.size a ≤ S8x128x128.size a} (hsoff : soff = ![t.val, 0, 0])
    {sS : DmaSem sig} {sR : C → DmaSem sig} (hS : sS = seS t) (hR : ∀ h, sR h = reS c)
    {hsc : ∀ h : C, ((reM.slice (Rect.unit (s := S8x128x128) off S1x128x128.size (inb h)) (fun _ => rfl)).squeeze S128x128 squeezes_S1x128x128_S128x128 : Memref sig (Dev.tc (d h) : Thread nD τ).2.kind .vmem S128x128 .bf16).view.ref.isScScratch = false}
    {hsrc : C → ((seM.slice (Rect.unit (s := S8x128x128) soff S1x128x128.size sinb) (fun _ => rfl)).squeeze S128x128 squeezes_S1x128x128_S128x128).view.WordExact}
    {hdst : ∀ h : C, ((reM.slice (Rect.unit (s := S8x128x128) off S1x128x128.size (inb h)) (fun _ => rfl)).squeeze S128x128 squeezes_S1x128x128_S128x128).view.WordExact}
    {hsem : ∀ h : C, DmaTarget.Typed .vmem (.dma (sR h)) (.remote (Dev.tc (d h) : Thread nD τ) ((reM.slice (Rect.unit (s := S8x128x128) off S1x128x128.size (inb h)) (fun _ => rfl)).squeeze S128x128 squeezes_S1x128x128_S128x128 : Memref sig .tc .vmem S128x128 .bf16) (.dma sS) (hsc h))} :
    iprop(Ctx m K ∗ sendB m c t ∗ Ow c (oRe c (n + 1)))
      ⊢ iprop((iprop(sendC c t ∗ Ow c (oRe c n)) -∗ Run c (k ⟨⟩) Q) -∗ Run c
        (if h : C then (.op (.enqueueDma ((seM.slice (Rect.unit (s := S8x128x128) soff S1x128x128.size sinb) (fun _ => rfl)).squeeze S128x128 squeezes_S1x128x128_S128x128)
          (.remote (Dev.tc (d h)) ((reM.slice (Rect.unit (s := S8x128x128) off S1x128x128.size (inb h)) (fun _ => rfl)).squeeze S128x128 squeezes_S1x128x128_S128x128) (.dma sS) (hsc h))
          (.dma (sR h)) (hsrc h) (hdst h) (hsem h)) k) else k ⟨⟩) Q) := by
  by_cases hc : C
  · rw [dif_pos hc]
    exact run_sendTo m K c t (hC.mp hc) n hn (hd hc) (hoff hc) hsoff hS (hR hc)
  · rw [dif_neg hc]
    have ht : t = c := Decidable.byContradiction fun h => hc (hC.mpr h)
    unfold sendB sendC
    rw [if_pos ht, if_pos ht, oRe_step c t n hn, if_pos ht, add_zero]
    iintro ⟨-, HS, HO⟩ Hk
    iapply Hk
    isplitl [HS]; · iexact HS
    iexact HO

/-- After the wait for the copy to `t`: the source slot is back, the semaphore at zero. -/
def sendD (t : Fin 8) : sProp 𝕄 := iprop(Any c (slot seM t) ∗ semVal (seG c t) 0)

theorem run_sent (t : Fin 8) {C : Prop} [Decidable C] (hC : C ↔ ¬ t = c) {sS : DmaSem sig} (hS : sS = seS t)
    {s₁ s₂ : Shape} {e₁ e₂ : EltTy} {sp₁ sp₂ : Space} {srcw : C → Memref sig .tc sp₁ s₁ e₁} {dstw : C → Memref sig .tc sp₂ s₂ e₂}
    {hsrc : ∀ h, (srcw h).view.WordExact} {hdst : ∀ h, (dstw h).view.WordExact} (hN : ∀ h, (dstw h).view.dmaCredit = N) :
    iprop(Ctx m K ∗ sendC c t ∗ Ow c (oRe c 0))
      ⊢ iprop((iprop(sendD c t ∗ Ow c (oRe c 0)) -∗ Run c (k ⟨⟩) Q) -∗ Run c
        (if h : C then .op (.waitDma2 sS (srcw h) (dstw h) (hsrc h) (hdst h)) k else k ⟨⟩) Q) := by
  subst hS
  unfold sendC sendD
  by_cases hc : C
  · have ht := hC.mp hc
    rw [dif_pos hc, if_neg ht]
    iintro ⟨#HC, ⟨Hcr, Hat⟩, HO⟩ Hk
    unfold Ow
    icases HO with ⟨%W, HO⟩
    iapply (Rounds.wp_wait_rest_token 𝒱₀ ER (exRd m) (c : Thread nD τ) none (κ := K (c, ixSe t))
        (wpE_waitDma2_eq 𝒱₀ (c : Thread nD τ) none Set.univ) (Set.mem_univ _) () (O := oRe c 0) (W := W) (R := 0) (m := 0) (T := ∅)
        (by rw [Nat.zero_add, expect_se m c ht, hN])) $$ [Hcr HO Hat]
    · isplitr; · iapply (inv_se m K c t); iexact HC
      isplitl [Hcr]; · rw [hN]; iexact Hcr
      isplitl [HO]; · iexact HO
      isplitr; · rw [show oRe c 0 = (0 : CellTallies nD τ sig Unit) from rfl, MayWait_zero]; iempintro
      iexact Hat
    iintro ⟨HO, Hat, -, Hpay⟩
    imod (Rounds.cell_close ER (exRd m) (Set.mem_univ (K (c, ixSe t))) (fun h => h) (R := 0 + 1) (duties_later m (seG c t))) $$ [Hat] with Hz
    · isplitr; · iapply (inv_se m K c t); iexact HC
      iexact Hat
    iapply Hk
    isplitl [Hz Hpay]
    · isplitl [Hpay]
      · ihave Hp := (Entails.of_eq (rest_se m c ht)) $$ Hpay
        unfold sePay
        rw [any_squeeze c (slot seM t) squeezes_S1x128x128_S128x128]; iexact Hp
      iexact Hz
    iexists _; iexact HO
  · have ht : t = c := Decidable.byContradiction fun h => hc (hC.mpr h)
    rw [dif_neg hc, if_pos ht]
    subst ht
    iintro ⟨-, HS, HO⟩ Hk
    iapply Hk
    isplitl [HS]; · iexact HS
    iexact HO

/-! ## The blocks received -/

/-- Before block `s` has come: what the wait for it takes. -/
def recvA (s : Fin 8) : sProp 𝕄 := iprop(cred (tallyAt (reG c s) () N) ∗ atPos ER (reG c s) 0 ∅ 0)
/-- After: the slot holds the sender's block. -/
def recvB (s : Fin 8) : sProp 𝕄 := iprop(Holds c (slot reM s) (sent m s c) ∗ semVal (reG c s) 0)

theorem run_recv (s : Fin 8) (hs : ¬ s = c) {sR : DmaSem sig} (hR : sR = reS s)
    {s₁ s₂ : Shape} {e₁ e₂ : EltTy} {sp₁ sp₂ : Space} {srcw : Memref sig .tc sp₁ s₁ e₁} {dstw : Memref sig .tc sp₂ s₂ e₂}
    {hsrc : srcw.view.WordExact} {hdst : dstw.view.WordExact} (hN : dstw.view.dmaCredit = N) :
    iprop(Ctx m K ∗ recvA c s ∗ Ow c (oRe c 0))
      ⊢ iprop((iprop(recvB m c s ∗ Ow c (oRe c 0)) -∗ Run c (k ⟨⟩) Q) -∗ Run c
        (.op (.waitDma2 sR srcw dstw hsrc hdst) k) Q) := by
  subst hR
  unfold recvA recvB
  iintro ⟨#HC, ⟨Hcr, Hat⟩, HO⟩ Hk
  unfold Ow
  icases HO with ⟨%W, HO⟩
  iapply (Rounds.wp_wait_rest_token 𝒱₀ ER (exRd m) (c : Thread nD τ) none (κ := K (c, ixRe s))
      (wpE_waitDma2_eq 𝒱₀ (c : Thread nD τ) none Set.univ) (Set.mem_univ _) () (O := oRe c 0) (W := W) (R := 0) (m := 0) (T := ∅)
      (by rw [Nat.zero_add, expect_re m c hs, hN])) $$ [Hcr HO Hat]
  · isplitr; · iapply (inv_re m K c s); iexact HC
    isplitl [Hcr]; · rw [hN]; iexact Hcr
    isplitl [HO]; · iexact HO
    isplitr; · rw [show oRe c 0 = (0 : CellTallies nD τ sig Unit) from rfl, MayWait_zero]; iempintro
    iexact Hat
  iintro ⟨HO, Hat, -, Hpay⟩
  imod (Rounds.cell_close ER (exRd m) (Set.mem_univ (K (c, ixRe s))) (fun h => h) (R := 0 + 1) (duties_later m (reG c s))) $$ [Hat] with Hz
  · isplitr; · iapply (inv_re m K c s); iexact HC
    iexact Hat
  iapply Hk
  isplitl [Hz Hpay]
  · isplitl [Hpay]
    · ihave Hp := (Entails.of_eq (rest_re m c hs)) $$ Hpay
      unfold rePay
      iapply (holds_unsqueeze c (slot reM s) squeezes_S1x128x128_S128x128 (sent m s c)); iexact Hp
    iexact Hz
  iexists _; iexact HO

end Runs

end Cert.A2A
-- ==== Proof.Local.lean ====
/-
# The local stretches of a run

The weight columns brought in one by one, the product blocks, the block a device keeps for itself, and the blocks it
receives on their way to the result.
-/
module

public import proofs.«01_k».proof.Proof.Steps

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 34 → ℕ)

/-- What a weight column's copy counts, and what a result block's does. -/
abbrev Nw : ℕ := (wflat 0).view.dmaCredit
abbrev No : ℕ := (orow 0).view.dmaCredit
theorem Nw_pos : 0 < Nw := View.dmaCredit_pos _ (by decide)
theorem No_pos : 0 < No := View.dmaCredit_pos _ (by decide)
theorem low_w (t : Fin 8) : reIx (.dma (wS t)) = none := by revert t; decide
theorem low_st (t : Fin 8) : reIx (.dma (stS t)) = none := by revert t; decide
theorem low_x : reIx (.dma xS) = none := by decide

/-- A run that is over leaves what it returns. -/
theorem run_ret {α : Type} {Q : α → sProp 𝕄} (c : Dev nD) (a : α) : Q a ⊢ Run c (.ret a) Q := by
  show _ ⊢ wp frame _ _ _ _
  rw [wp_ret]; iintro H; imodintro; iexact H
/-- A run in two stretches. -/
theorem run_bind {α β : Type} {Q : β → sProp 𝕄} (c : Dev nD) (p : Prog (TpuEff nD τ sig (Elt F) Λ₀ .tc) α)
    (k : α → Prog (TpuEff nD τ sig (Elt F) Λ₀ .tc) β) : Run c p (fun a => Run c (k a) Q) ⊢ Run c (p >>= k) Q := by
  show _ ⊢ wp frame _ _ _ _
  rw [wp_bind]

section Runs
variable {α : Type} {Q : α → sProp (MT nD τ sig Unit (Elt F) ℕ UU ℕ)} (c : Dev nD)
variable {k : PUnit → Prog (TpuEff nD τ sig (Elt F) Λ₀ .tc) α}

/-! ## The weights -/

/-- Column block `t` of the device's weights, at its launch contents. -/
def wPts (t : Fin 8) : sProp 𝕄 := (wcol t).view.loc (c : Thread nD τ) ↦[(wcol t).view.set]{fullShare} (m ((c : Thread nD τ).loc main_arg1))
/-- Before its copy, with the copy under way, and after: the block and its semaphore at zero. -/
def wR (t : Fin 8) : sProp 𝕄 := iprop(wPts m c t ∗ semVal ((c : Thread nD τ), .dma (wS t)) 0)
def wA (t : Fin 8) : sProp 𝕄 := Fly c (.dma (wS t)) Nw (wcol t) (wflat t) fullShare (m ((c : Thread nD τ).loc main_arg1))

theorem run_bring (t : Fin 8) {off : Fin 2 → ℕ} {inb : ∀ a, off a + S1024x128.size a ≤ S1024x1024.size a} (hoff : off = ![0, 128 * t.val])
    {soff : Fin 3 → ℕ} {sinb : ∀ a, soff a + S1x1024x128.size a ≤ S8x1024x128.size a} (hsoff : soff = ![t.val, 0, 0])
    {sS : DmaSem sig} (hS : sS = wS t)
    {hsrc : (wM.slice (Rect.unit (s := S1024x1024) off S1024x128.size inb) (fun _ => rfl)).view.WordExact}
    {hdst : ((wrM.slice (Rect.unit (s := S8x1024x128) soff S1x1024x128.size sinb) (fun _ => rfl)).squeeze S1024x128 squeezes_S1x1024x128_S1024x128).view.WordExact}
    {hsem : DmaTarget.Typed .hbm (.dma sS) (.here ((wrM.slice (Rect.unit (s := S8x1024x128) soff S1x1024x128.size sinb) (fun _ => rfl)).squeeze S1024x128 squeezes_S1x1024x128_S1024x128) : DmaTarget nD τ sig (c : Thread nD τ).2 .vmem S1024x128 .f32)} :
    iprop(wR m c t ∗ Any c (wslot t)) ⊢ iprop((wA m c t -∗ Run c (k ⟨⟩) Q) -∗ Run c
      (.op (.enqueueDma (wM.slice (Rect.unit (s := S1024x1024) off S1024x128.size inb) (fun _ => rfl))
        (.here ((wrM.slice (Rect.unit (s := S8x1024x128) soff S1x1024x128.size sinb) (fun _ => rfl)).squeeze S1024x128 squeezes_S1x1024x128_S1024x128))
        (.dma sS) hsrc hdst hsem) k) Q) := by
  subst hoff hsoff hS
  iintro ⟨HR, HA⟩ Hk
  unfold wR wPts wA
  icases HR with ⟨Hw, Hz⟩
  ihave HA := (Entails.of_eq (any_squeeze (F := F) c (wslot t) squeezes_S1x1024x128_S1024x128)) $$ HA
  iapply (wp_start 𝒱₀ c none Nw rfl Nw_pos) $$ [Hw HA Hz]
  · isplitl [Hw]; · iexact Hw
    isplitl [HA]; · iexact HA
    iexact Hz
  iexact Hk

theorem run_brought (t : Fin 8) (n : ℕ) {sS : DmaSem sig} (hS : sS = wS t)
    {s₁ s₂ : Shape} {e₁ e₂ : EltTy} {sp₁ sp₂ : Space} {srcw : Memref sig .tc sp₁ s₁ e₁} {dstw : Memref sig .tc sp₂ s₂ e₂}
    {hsrc : srcw.view.WordExact} {hdst : dstw.view.WordExact} (hN : dstw.view.dmaCredit = Nw) :
    iprop(Ctx m K ∗ wA m c t ∗ Ow c (oRe c n))
      ⊢ iprop((iprop(Holds c (wslot t) (wb m c t) ∗ wR m c t ∗ Ow c (oRe c n)) -∗ Run c (k ⟨⟩) Q)
        -∗ Run c (.op (.waitDma2 sS srcw dstw hsrc hdst) k) Q) := by
  subst hS
  iintro ⟨#HC, HA, HO⟩ Hk
  unfold wA wR wPts
  iapply (wp_landed 𝒱₀ c none hN) $$ [HA HO]
  · isplitl [HA]; · iexact HA
    isplitl [HO]; · iexact HO
    iapply (mayWait_low' (F := F) c (low_w t) n); iapply (lev_at m K); iexact HC
  iintro ⟨HH, Hw, Hz, HO⟩
  iapply Hk
  isplitl [HH]
  · iapply (holds_unsqueeze c (wslot t) squeezes_S1x1024x128_S1024x128 (wb m c t))
    unfold wb
    simp only [Equiv.symm_apply_apply]
    iexact HH
  isplitl [Hw Hz]
  · isplitl [Hw]; · iexact Hw
    iexact Hz
  iexact HO

/-! ## The rows of `x` -/

abbrev Nx : ℕ := xvM.view.dmaCredit
theorem Nx_pos : 0 < Nx := View.dmaCredit_pos _ (by decide)
/-- The device's rows of `x` at their launch contents. -/
def xPts : sProp 𝕄 := xM.view.loc (c : Thread nD τ) ↦[xM.view.set]{fullShare} (m ((c : Thread nD τ).loc main_arg0))
/-- Before they are brought in, with the copy under way, and after. -/
def xA : sProp 𝕄 := iprop(xPts m c ∗ Any c xvM ∗ semVal ((c : Thread nD τ), .dma xS) 0)
def xB : sProp 𝕄 := Fly c (.dma xS) Nx xM xvM fullShare (m ((c : Thread nD τ).loc main_arg0))

theorem run_bringX {sS : DmaSem sig} (hS : sS = xS) {hsrc : xM.view.WordExact} {hdst : xvM.view.WordExact}
    {hsem : DmaTarget.Typed .hbm (.dma sS) (.here xvM : DmaTarget nD τ sig (c : Thread nD τ).2 .vmem S128x1024 .f32)} :
    xA m c ⊢ iprop((xB m c -∗ Run c (k ⟨⟩) Q) -∗ Run c (.op (.enqueueDma xM (.here xvM) (.dma sS) hsrc hdst hsem) k) Q) := by
  subst hS
  unfold xA xB xPts
  exact wp_start 𝒱₀ c none Nx rfl Nx_pos

/-- The wait for the rows of `x`, and their load, rounded. -/
theorem run_rows (n : ℕ) {sS : DmaSem sig} (hS : sS = xS) {hsrc : xM.view.WordExact} {hdst : xvM.view.WordExact}
    {inb : ∀ a, (![0, 0] : Fin 2 → ℕ) a + S128x1024.size a ≤ S128x1024.size a}
    {hl : xvM.view.LoadsAt (Rect.unit (s := S128x1024) ![0, 0] S128x1024.size inb).toLoadRect}
    {k : ((Rect.unit (s := S128x1024) ![0, 0] S128x1024.size inb).shape.Idx → Elt F .f32) → Prog (TpuEff nD τ sig (Elt F) Λ₀ .tc) α} :
    iprop(Ctx m K ∗ xB m c ∗ Ow c (oRe c n))
      ⊢ iprop((iprop(xA m c ∗ Ow c (oRe c n)) -∗ Run c (k (xM.view.read (Elt F) (m ((c : Thread nD τ).loc main_arg0)))) Q)
        -∗ Run c (.op (.waitDma2 sS xM xvM hsrc hdst) fun _ =>
          .op (.load xvM (Rect.unit (s := S128x1024) ![0, 0] S128x1024.size inb).toLoadRect hl) k) Q) := by
  subst hS
  unfold xA xB xPts
  iintro ⟨#HC, HA, HO⟩ Hk
  iapply (wp_landed 𝒱₀ c none (N := Nx) rfl) $$ [HA HO]
  · isplitl [HA]; · iexact HA
    isplitl [HO]; · iexact HO
    iapply (mayWait_low' (F := F) c low_x n); iapply (lev_at m K); iexact HC
  iintro ⟨HH, Hx, Hz, HO⟩
  unfold Holds Any
  icases HH with ⟨%f, HH, %hf⟩
  have hr : xvM.view.readAt (Elt F) (Rect.unit (s := S128x1024) ![0, 0] S128x1024.size inb).toLoadRect f = xM.view.read (Elt F) (m ((c : Thread nD τ).loc main_arg0)) :=
    (Memref.readAt_unit_zero (Elt F) cc0_scratch0 (by funext a; fin_cases a <;> rfl) _ f).trans ((View.read_whole (Val := Elt F) cc0_scratch0 f).symm.trans hf)
  iapply (wp_load 𝒱₀ (c : Thread nD τ) none Set.univ (m := xvM) (r := (Rect.unit (s := S128x1024) ![0, 0] S128x1024.size inb).toLoadRect)
    (S := xvM.view.set) (by rw [show xvM.view.set = Finset.univ from View.set_whole _]; exact Finset.subset_univ _)) $$ HH; iintro HH
  rw [hr]
  iapply Hk
  isplitr [HO]
  · isplitl [Hx]; · iexact Hx
    isplitl [HH]; · iexists f; iexact HH
    iexact Hz
  iexact HO

/-! ## A block of the product -/

/-- Before block `t` of the product is formed, and after. -/
def accA (t : Fin 8) : sProp 𝕄 := iprop(wA m c t ∗ Any c (acol t))
def accD (t : Fin 8) : sProp 𝕄 := iprop(wR m c t ∗ Any c (wslot t) ∗ Holds c (acol t) (prod m c t))

/-- The wait for the weights' column block, and the block of the product formed from it. -/
theorem run_form (t : Fin 8) (n : ℕ) {sS : DmaSem sig} (hS : sS = wS t)
    {off : Fin 3 → ℕ} {inb : ∀ a, off a + S1x1024x128.size a ≤ S8x1024x128.size a} (hoff : off = ![t.val, 0, 0])
    {aoff : Fin 2 → ℕ} {ainb : ∀ a, aoff a + S128x128.size a ≤ S128x1024.size a} (haoff : aoff = ![0, 128 * t.val])
    {w : Vec F S1x1024x128 .f32 → FVec F S128x128 .f32} (hw : w (wb m c t) = prod m c t)
    {s₁ : Shape} {e₁ : EltTy} {sp₁ : Space} {srcw : Memref sig .tc sp₁ s₁ e₁} {hsrc : srcw.view.WordExact}
    {hdst : ((wrM.slice (Rect.unit (s := S8x1024x128) off S1x1024x128.size inb) (fun _ => rfl)).squeeze S1024x128 squeezes_S1x1024x128_S1024x128).view.WordExact}
    {hl : wrM.view.LoadsAt (Rect.unit (s := S8x1024x128) off S1x1024x128.size inb).toLoadRect}
    {hl' : acM.view.LoadsAt (Rect.unit (s := S128x1024) aoff S128x128.size ainb).toLoadRect}
    {hx : (acM.access (Rect.unit (s := S128x1024) aoff S128x128.size ainb)).Stores Finset.univ}
    {hm : (Finset.univ : Finset (Rect.unit (s := S128x1024) aoff S128x128.size ainb).shape.Idx) = Finset.univ ∨ ∀ a, (Rect.unit (s := S128x1024) aoff S128x128.size ainb).stride a = 1} :
    iprop(Ctx m K ∗ accA m c t ∗ Ow c (oRe c n))
      ⊢ iprop((iprop(accD m c t ∗ Ow c (oRe c n)) -∗ Run c (k ⟨⟩) Q) -∗ Run c
        (.op (.waitDma2 sS srcw ((wrM.slice (Rect.unit (s := S8x1024x128) off S1x1024x128.size inb) (fun _ => rfl)).squeeze S1024x128 squeezes_S1x1024x128_S1024x128) hsrc hdst) fun _ =>
          .op (.load wrM (Rect.unit (s := S8x1024x128) off S1x1024x128.size inb).toLoadRect hl) fun v =>
          .op (.load acM (Rect.unit (s := S128x1024) aoff S128x128.size ainb).toLoadRect hl') fun _ =>
          .op (.store acM (Rect.unit (s := S128x1024) aoff S128x128.size ainb) (w v) Finset.univ hx hm) k) Q) := by
  subst hoff haoff
  unfold accA accD
  iintro ⟨#HC, ⟨HW, HA⟩, HO⟩ Hk
  iapply (run_brought m K c t n (dstw := wflat t) hS rfl) $$ [HO HW]
  · isplitr; · iexact HC
    isplitl [HW]; · iexact HW
    iexact HO
  iintro ⟨HH, HW, HO⟩
  iapply (wp_loadH 𝒱₀ c none (m := wrM) (fun _ => rfl)) $$ HH; iintro HH
  iapply (wp_loadAny 𝒱₀ c none (m := acM) (fun _ => rfl)) $$ HA; iintro %V HA
  iapply (wp_storeAny 𝒱₀ c none (m := acM) (fun _ => rfl)) $$ HA; iintro HA
  iapply Hk
  isplitr [HO]
  · isplitl [HW]; · iexact HW
    isplitl [HH]; · iapply (holds_any c (wslot t) (wb m c t)); iexact HH
    rw [← hw]; iexact HA
  iexact HO

/-- The block of the product read back. -/
theorem run_read (t : Fin 8) {aoff : Fin 2 → ℕ} {ainb : ∀ a, aoff a + S128x128.size a ≤ S128x1024.size a} (haoff : aoff = ![0, 128 * t.val])
    {hl' : acM.view.LoadsAt (Rect.unit (s := S128x1024) aoff S128x128.size ainb).toLoadRect}
    {k : ((Rect.unit (s := S128x1024) aoff S128x128.size ainb).shape.Idx → Elt F .f32) → Prog (TpuEff nD τ sig (Elt F) Λ₀ .tc) α} :
    accD m c t ⊢ iprop((accD m c t -∗ Run c (k (prod m c t)) Q)
      -∗ Run c (.op (.load acM (Rect.unit (s := S128x1024) aoff S128x128.size ainb).toLoadRect hl') k) Q) := by
  subst haoff
  unfold accD
  iintro ⟨HW, HH, HA⟩ Hk
  iapply (wp_loadH 𝒱₀ c none (m := acM) (fun _ => rfl)) $$ HA; iintro HA
  iapply Hk
  isplitl [HW]; · iexact HW
  isplitl [HH]; · iexact HH
  iexact HA

/-! ## A block on its way to the result -/

/-- Slot `r` of the staging buffer, holding `V`, is being copied to row block `s` of the result. -/
def putFly (r s : Fin 8) (V : FVec F S1x128x128 .f32) : sProp 𝕄 :=
  iprop(∃ fs : Buf (Elt F) ((flat stM r).view.loc (c : Thread nD τ)), ⌜(flat stM r).view.read (Elt F) fs = mat V⌝
    ∗ Fly c (.dma (stS r)) No (flat stM r) (orow s) fullShare fs)
/-- Before, and after. -/
def putA (r s : Fin 8) : sProp 𝕄 := iprop(Any c (slot stM r) ∗ Any c (orow s) ∗ semVal ((c : Thread nD τ), .dma (stS r)) 0)
def putB (r s : Fin 8) (V : FVec F S1x128x128 .f32) : sProp 𝕄 :=
  iprop(Holds c (slot stM r) V ∗ Any c (orow s) ∗ semVal ((c : Thread nD τ), .dma (stS r)) 0)
def putD (r s : Fin 8) (V : FVec F S1x128x128 .f32) : sProp 𝕄 :=
  iprop(Holds c (orow s) (mat V) ∗ Any c (slot stM r) ∗ semVal ((c : Thread nD τ), .dma (stS r)) 0)

/-- The block is put in its staging slot. -/
theorem run_stage (r s : Fin 8) {off : Fin 3 → ℕ}
    {inb : ∀ a, off a + S1x128x128.size a ≤ S8x128x128.size a} (hoff : off = ![r.val, 0, 0]) {w : FVec F S1x128x128 .f32}
    {hl : stM.view.LoadsAt (Rect.unit (s := S8x128x128) off S1x128x128.size inb).toLoadRect}
    {hx : (stM.access (Rect.unit (s := S8x128x128) off S1x128x128.size inb)).Stores Finset.univ}
    {hm : (Finset.univ : Finset (Rect.unit (s := S8x128x128) off S1x128x128.size inb).shape.Idx) = Finset.univ ∨ ∀ a, (Rect.unit (s := S8x128x128) off S1x128x128.size inb).stride a = 1} :
    putA (F := F) c r s ⊢ iprop((putB c r s w -∗ Run c (k ⟨⟩) Q) -∗ Run c
      (.op (.load stM (Rect.unit (s := S8x128x128) off S1x128x128.size inb).toLoadRect hl)
        (fun _ => .op (.store stM (Rect.unit (s := S8x128x128) off S1x128x128.size inb) w Finset.univ hx hm) k)) Q) := by
  subst hoff
  unfold putA putB
  iintro ⟨HA, HR⟩ Hk
  iapply (wp_loadAny 𝒱₀ c none (m := stM) (fun _ => rfl)) $$ HA; iintro %V HA
  iapply (wp_storeAny 𝒱₀ c none (m := stM) (fun _ => rfl)) $$ HA; iintro HA
  iapply Hk
  isplitl [HA]; · iexact HA
  iexact HR

/-- The copy to the result starts. -/
theorem run_put (r s : Fin 8) {V : FVec F S1x128x128 .f32} {off : Fin 2 → ℕ} {inb : ∀ a, off a + S128x128.size a ≤ S1024x128.size a}
    (hoff : off = ![128 * s.val, 0]) {soff : Fin 3 → ℕ} {sinb : ∀ a, soff a + S1x128x128.size a ≤ S8x128x128.size a} (hsoff : soff = ![r.val, 0, 0])
    {sS : DmaSem sig} (hS : sS = stS r)
    {hsrc : ((stM.slice (Rect.unit (s := S8x128x128) soff S1x128x128.size sinb) (fun _ => rfl)).squeeze S128x128 squeezes_S1x128x128_S128x128).view.WordExact}
    {hdst : (oM.slice (Rect.unit (s := S1024x128) off S128x128.size inb) (fun _ => rfl)).view.WordExact}
    {hsem : DmaTarget.Typed .vmem (.dma sS) (.here (oM.slice (Rect.unit (s := S1024x128) off S128x128.size inb) (fun _ => rfl)) : DmaTarget nD τ sig (c : Thread nD τ).2 .hbm S128x128 .f32)} :
    putB c r s V ⊢ iprop((putFly c r s V -∗ Run c (k ⟨⟩) Q) -∗ Run c
      (.op (.enqueueDma ((stM.slice (Rect.unit (s := S8x128x128) soff S1x128x128.size sinb) (fun _ => rfl)).squeeze S128x128 squeezes_S1x128x128_S128x128)
        (.here (oM.slice (Rect.unit (s := S1024x128) off S128x128.size inb) (fun _ => rfl))) (.dma sS) hsrc hdst hsem) k) Q) := by
  subst hoff hsoff hS
  unfold putB putFly
  iintro ⟨HH, HA, Hz⟩ Hk
  ihave HH := (holds_squeeze c (slot stM r) squeezes_S1x128x128_S128x128 V) $$ HH
  unfold Holds
  icases HH with ⟨%fs, HH, %hfs⟩
  iapply (wp_start 𝒱₀ c none No rfl No_pos (fs := fs) (q := fullShare)) $$ [HH HA Hz]
  · isplitl [HH]; · iexact HH
    isplitl [HA]; · iexact HA
    iexact Hz
  iintro H
  iapply Hk
  iexists fs
  isplitr; · ipureintro; exact hfs
  iexact H

/-- The wait for it. -/
theorem run_putDone (r s : Fin 8) {V : FVec F S1x128x128 .f32} {sS : DmaSem sig} (hS : sS = stS r)
    {s₁ s₂ : Shape} {e₁ e₂ : EltTy} {sp₁ sp₂ : Space} {srcw : Memref sig .tc sp₁ s₁ e₁} {dstw : Memref sig .tc sp₂ s₂ e₂}
    {hsrc : srcw.view.WordExact} {hdst : dstw.view.WordExact} (hN : dstw.view.dmaCredit = No) :
    iprop(Ctx m K ∗ putFly c r s V ∗ Ow c (oRe c 0))
      ⊢ iprop((iprop(putD c r s V ∗ Ow c (oRe c 0)) -∗ Run c (k ⟨⟩) Q) -∗ Run c (.op (.waitDma2 sS srcw dstw hsrc hdst) k) Q) := by
  subst hS
  unfold putFly putD
  iintro ⟨#HC, ⟨%fs, %hfs, H⟩, HO⟩ Hk
  iapply (wp_landed 𝒱₀ c none hN) $$ [H HO]
  · isplitl [H]; · iexact H
    isplitl [HO]; · iexact HO
    iapply (mayWait_low' (F := F) c (low_st r) 0); iapply (lev_at m K); iexact HC
  iintro ⟨HH, Hs, Hz, HO⟩
  iapply Hk
  isplitl [HH Hs Hz]
  · isplitl [HH]; · rw [← hfs]; iexact HH
    isplitl [Hs]
    · rw [any_squeeze c (slot stM r) squeezes_S1x128x128_S128x128]
      iapply (any_intro c (flat stM r) fs); iexact Hs
    iexact Hz
  iexact HO

/-! ## The block a device keeps -/

/-- Before block `t` is formed: the device's own block is under way if it has been passed. -/
def ownA (t : ℕ) : sProp 𝕄 := if c.val < t then putFly c 7 c (kept m c) else putA c 7 c
/-- When block `t` has been formed and is in its staging slot if it is the device's own. -/
def ownB (t : ℕ) : sProp 𝕄 := if c.val = t then putB c 7 c (kept m c) else ownA m c t
/-- At the end, when the waits for the blocks before `t` have been passed. -/
def ownD (t : ℕ) : sProp 𝕄 := if c.val < t then putD c 7 c (kept m c) else putFly c 7 c (kept m c)

theorem run_keep (t : Fin 8) {C : Prop} [Decidable C] (hC : C ↔ t = c) (n : ℕ) (hn : n = t.val) {off : Fin 3 → ℕ}
    {inb : ∀ a, off a + S1x128x128.size a ≤ S8x128x128.size a} (hoff : off = ![7, 0, 0]) {w : FVec F S1x128x128 .f32}
    (hw : w = k0_pay4 (prod m c t))
    {hl : C → stM.view.LoadsAt (Rect.unit (s := S8x128x128) off S1x128x128.size inb).toLoadRect}
    {hx : C → (stM.access (Rect.unit (s := S8x128x128) off S1x128x128.size inb)).Stores Finset.univ}
    {hm : C → (Finset.univ : Finset (Rect.unit (s := S8x128x128) off S1x128x128.size inb).shape.Idx) = Finset.univ ∨ ∀ a, (Rect.unit (s := S8x128x128) off S1x128x128.size inb).stride a = 1} :
    ownA m c n ⊢ iprop((ownB m c n -∗ Run c (k ⟨⟩) Q) -∗ Run c
      (if h : C then .op (.load stM (Rect.unit (s := S8x128x128) off S1x128x128.size inb).toLoadRect (hl h))
        (fun _ => .op (.store stM (Rect.unit (s := S8x128x128) off S1x128x128.size inb) w Finset.univ (hx h) (hm h)) k) else k ⟨⟩) Q) := by
  subst hn
  by_cases hc : C
  · have ht := hC.mp hc
    rw [dif_pos hc]
    unfold ownA ownB
    rw [if_neg (by rw [ht]; exact Nat.lt_irrefl _), if_pos (by rw [ht])]
    have hw' : w = kept m c := hw.trans (by rw [ht]; rfl)
    rw [hw']
    exact run_stage c 7 c hoff
  · have ht : ¬ t = c := fun h => hc (hC.mpr h)
    rw [dif_neg hc]
    unfold ownB
    rw [if_neg fun h => ht (Fin.ext h.symm)]
    iintro HA Hk; iapply Hk; iexact HA

theorem run_putOwn (t : Fin 8) {C : Prop} [Decidable C] (hC : C ↔ t = c) (n : ℕ) (hn : n = t.val) {off : Fin 2 → ℕ}
    {inb : C → ∀ a, off a + S128x128.size a ≤ S1024x128.size a}
    (hoff : off = ![128 * c.val, 0]) {soff : Fin 3 → ℕ} {sinb : ∀ a, soff a + S1x128x128.size a ≤ S8x128x128.size a} (hsoff : soff = ![7, 0, 0])
    {sS : DmaSem sig} (hS : sS = stS 7)
    {hsrc : C → ((stM.slice (Rect.unit (s := S8x128x128) soff S1x128x128.size sinb) (fun _ => rfl)).squeeze S128x128 squeezes_S1x128x128_S128x128).view.WordExact}
    {hdst : ∀ h : C, (oM.slice (Rect.unit (s := S1024x128) off S128x128.size (inb h)) (fun _ => rfl)).view.WordExact}
    {hsem : ∀ h : C, DmaTarget.Typed .vmem (.dma sS) (.here (oM.slice (Rect.unit (s := S1024x128) off S128x128.size (inb h)) (fun _ => rfl)) : DmaTarget nD τ sig (c : Thread nD τ).2 .hbm S128x128 .f32)} :
    ownB m c n ⊢ iprop((ownA m c (n + 1) -∗ Run c (k ⟨⟩) Q) -∗ Run c
      (if h : C then .op (.enqueueDma ((stM.slice (Rect.unit (s := S8x128x128) soff S1x128x128.size sinb) (fun _ => rfl)).squeeze S128x128 squeezes_S1x128x128_S128x128)
        (.here (oM.slice (Rect.unit (s := S1024x128) off S128x128.size (inb h)) (fun _ => rfl))) (.dma sS) (hsrc h) (hdst h) (hsem h)) k else k ⟨⟩) Q) := by
  subst hn
  by_cases hc : C
  · have ht := hC.mp hc
    rw [dif_pos hc]
    unfold ownA ownB
    rw [if_pos (by rw [ht]), if_pos (by rw [ht]; exact Nat.lt_succ_self _)]
    exact run_put c 7 c hoff hsoff hS
  · have ht : ¬ t = c := fun h => hc (hC.mpr h)
    rw [dif_neg hc]
    have ht' : ¬ c.val = t.val := fun h => ht (Fin.ext h.symm)
    unfold ownB ownA
    rw [if_neg ht', if_congr (show c.val < t.val + 1 ↔ c.val < t.val by omega) rfl rfl]
    iintro HA Hk; iapply Hk; iexact HA

theorem run_ownDone (t : Fin 8) {C : Prop} [Decidable C] (hC : C ↔ t = c) (n : ℕ) (hn : n = t.val)
    {sS : DmaSem sig} (hS : sS = stS 7)
    {s₁ s₂ : Shape} {e₁ e₂ : EltTy} {sp₁ sp₂ : Space} {srcw : C → Memref sig .tc sp₁ s₁ e₁} {dstw : C → Memref sig .tc sp₂ s₂ e₂}
    {hsrc : ∀ h, (srcw h).view.WordExact} {hdst : ∀ h, (dstw h).view.WordExact} (hN : ∀ h, (dstw h).view.dmaCredit = No) :
    iprop(Ctx m K ∗ ownD m c n ∗ Ow c (oRe c 0))
      ⊢ iprop((iprop(ownD m c (n + 1) ∗ Ow c (oRe c 0)) -∗ Run c (k ⟨⟩) Q) -∗ Run c
        (if h : C then .op (.waitDma2 sS (srcw h) (dstw h) (hsrc h) (hdst h)) k else k ⟨⟩) Q) := by
  subst hn
  by_cases hc : C
  · have ht := hC.mp hc
    rw [dif_pos hc]
    unfold ownD
    rw [if_neg (by rw [ht]; exact Nat.lt_irrefl _), if_pos (by rw [ht]; exact Nat.lt_succ_self _)]
    exact run_putDone m K c 7 c hS (hN hc)
  · have ht : ¬ t = c := fun h => hc (hC.mpr h)
    rw [dif_neg hc]
    have ht' : ¬ c.val = t.val := fun h => ht (Fin.ext h.symm)
    unfold ownD
    rw [if_congr (show c.val < t.val + 1 ↔ c.val < t.val by omega) rfl rfl]
    iintro ⟨-, HA⟩ Hk; iapply Hk; iexact HA

end Runs

end Cert.A2A
-- ==== Proof.Body.lean ====
/-
# The first half of the body

The handshake, the copies in, and for each block: form it, keep it or send it.
-/
module

public import proofs.«01_k».proof.Proof.Local

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 34 → ℕ)

/-- The device's place, as the program computes it. -/
abbrev pos (c : Dev nD) : BitVec 32 := Scalar.remsi (Scalar.divsi (Dev.word c) 1#32) 8#32

theorem isEq_iff : ∀ (c : Dev nD) (t : Fin 8), Scalar.cmpi .ne (Scalar.extui (Scalar.cmpi .eq (pos c) (BitVec.ofNat 32 t.val)) : BitVec 32) 0#32 = 1#1 ↔ t = c := by decide +kernel
theorem isNe_iff : ∀ (c : Dev nD) (t : Fin 8), Scalar.cmpi .ne (Scalar.extui (Scalar.cmpi .ne (pos c) (BitVec.ofNat 32 t.val)) : BitVec 32) 0#32 = 1#1 ↔ ¬ t = c := by decide +kernel

/-- What the signal to the device `1 + r` places on takes: its duty, and the landing slot it hands over. -/
def ringA (c : Dev nD) (r : Fin 7) : sProp 𝕄 := iprop(dutyTok ER (barG (up c r)) 0 c ∗ Any c (flat reM (up c r)))

/-- A signal, from what it takes. -/
theorem run_ringA {α : Type} {Q : α → sProp 𝕄} (c : Dev nD) {k : PUnit → Prog (TpuEff nD τ sig (Elt F) Λ₀ .tc) α}
    (r : Fin 7) (n : ℕ) (hn : 6 - n = r.val) (hn' : n < 7) {d : Dev nD} (hd : d = up c r) :
    iprop(Ctx m K ∗ Ow c (oBar c (n + 1)) ∗ ringA c r)
      ⊢ iprop((Ow c (oBar c n) -∗ Run c (k ⟨⟩) Q) -∗ Run c (.op (.semSignal (Dev.tc d) barS (BitVec.toInt 1#32)) k) Q) := by
  unfold ringA; exact run_ring m K c r n hn hn' hd

/-- A separating product over everything, one factor taken out. -/
theorem bigSep_at (c : Dev nD) (Φ : Dev nD → sProp 𝕄) : (bigSep Finset.univ Φ : sProp 𝕄) = iprop(Φ c ∗ bigSep (Finset.univ.erase c) Φ) :=
  BI.bigSep_erase (Finset.mem_univ c)

/-- Before the handshake: what `sendA` has but for the landing slot, which the peer's signal brings. -/
def send0 (c t : Dev nD) : sProp 𝕄 :=
  if t = c then iprop(Any c (slot seM c) ∗ semVal (seG c c) 0)
  else iprop(Any c (slot seM t) ∗ dutyTok ER (seG c t) 0 c ∗ dutyTok ER (reG t c) 0 c ∗ atPos ER (seG c t) 0 ∅ 0)

/-- The seven signals make every `send0` a `sendA`. -/
theorem send0_open (c : Dev nD) :
    iprop((bigSep Finset.univ fun t => send0 c t) ∗ (bigSep (Finset.univ.erase c) fun d => barPay c d))
      ⊢ iprop(sendA c 0 ∗ sendA c 1 ∗ sendA c 2 ∗ sendA c 3 ∗ sendA c 4 ∗ sendA c 5 ∗ sendA c 6 ∗ sendA (F := F) c 7) := by
  have hz : iprop(sendA c 0 ∗ sendA c 1 ∗ sendA c 2 ∗ sendA c 3 ∗ sendA c 4 ∗ sendA c 5 ∗ sendA c 6 ∗ sendA (F := F) c 7) = (bigSep Finset.univ fun t => sendA (F := F) c t) :=
    (bigSep_univ_eq_bigSepL [0, 1, 2, 3, 4, 5, 6, 7] (by decide) (by decide) _).symm
  have hp : ∀ t ∈ Finset.univ.erase c, iprop(send0 c t ∗ barPay c t) ⊢ sendA (F := F) c t := fun t ht => by
    have hne : ¬ t = c := (Finset.mem_erase.mp ht).1
    unfold send0 sendA barPay
    rw [if_neg hne, if_neg hne]
    iintro ⟨⟨H1, H2, H3, H4⟩, H5, -⟩
    iframe H1 H2 H3 H4 H5
  have hq : iprop((bigSep (Finset.univ.erase c) fun t => send0 c t) ∗ (bigSep (Finset.univ.erase c) fun d => barPay c d))
      ⊢ (bigSep (Finset.univ.erase c) fun t => sendA (F := F) c t : sProp 𝕄) := by
    rw [← bigSep_sep']; exact bigSep_mono hp
  have hc : send0 c c = sendA (F := F) c c := by unfold send0 sendA; rw [if_pos rfl, if_pos rfl]
  rw [hz, bigSep_at c, bigSep_at c (fun t => sendA c t), hc]
  iintro ⟨⟨H1, H2⟩, H3⟩
  isplitl [H1]
  · iexact H1
  · iapply hq; iframe H2 H3

section Parts
variable (c : Dev nD)

/-- Five signals. -/
theorem part1 {Φ : (Σ' (d0 : Dev nD) (v2 : BitVec 32) (v3 : Sems sig S_) (v24 : BitVec 32), BitVec 32) → sProp 𝕄} :
    iprop(Ctx m K ∗ Ow c (oBar c 7) ∗ ringA c 0 ∗ ringA c 1 ∗ ringA c 2 ∗ ringA c 3 ∗ ringA c 4)
      ⊢ iprop((∀ v24, iprop(Ow c (oBar c 2))
          -∗ Φ ⟨c, pos c, SemArray.scalar (sig.barrier 0 rfl), v24, 8#32⟩)
        -∗ Run c (k0_part1 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10) Φ) := by
  simp only [k0_part1_eq_skeleton]; unfold k0_part1_skel
  simp only [Prog.lift, Prog.bind_op, Prog.bind_ret, Prog.pure_eq_ret, semSignalWord, wp_deviceId, Run]
  iintro ⟨#HC, HO, HR0, HR1, HR2, HR3, HR4⟩ Hk
  iapply (run_ringA m K c 0 6 rfl (by decide) (d := ⟨k0_dev1 c, k0_dev1_lt c⟩) (Fin.ext (k0_dev1_eq c))) $$ [HO HR0]
  · iframe HC HO HR0
  iintro HO
  iapply (run_ringA m K c 1 5 rfl (by decide) (d := ⟨k0_dev2 c, k0_dev2_lt c⟩) (Fin.ext (k0_dev2_eq c))) $$ [HO HR1]
  · iframe HC HO HR1
  iintro HO
  iapply (run_ringA m K c 2 4 rfl (by decide) (d := ⟨k0_dev3 c, k0_dev3_lt c⟩) (Fin.ext (k0_dev3_eq c))) $$ [HO HR2]
  · iframe HC HO HR2
  iintro HO
  iapply (run_ringA m K c 3 3 rfl (by decide) (d := ⟨k0_dev4 c, k0_dev4_lt c⟩) (Fin.ext (k0_dev4_eq c))) $$ [HO HR3]
  · iframe HC HO HR3
  iintro HO
  iapply (run_ringA m K c 4 2 rfl (by decide) (d := ⟨k0_dev5 c, k0_dev5_lt c⟩) (Fin.ext (k0_dev5_eq c))) $$ [HO HR4]
  · iframe HC HO HR4
  iintro HO
  iapply (run_ret c)
  iapply Hk
  iexact HO

/-- Two more; the copies of the rows of `x` and of three column blocks of the weights start. -/
theorem part2 (v24 : BitVec 32) {Φ : PUnit → sProp 𝕄} :
    iprop(Ctx m K ∗ Ow c (oBar c 2) ∗ ringA c 5 ∗ ringA c 6 ∗ xA m c ∗ (wR m c 0 ∗ Any c (wslot 0)) ∗ (wR m c 1 ∗ Any c (wslot 1)) ∗ (wR m c 2 ∗ Any c (wslot 2)))
      ⊢ iprop((iprop(Ow c (oRe c 8) ∗ xB m c ∗ wA m c 0 ∗ wA m c 1 ∗ wA m c 2)
          -∗ Φ ⟨⟩)
        -∗ Run c (k0_part2 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (SemArray.scalar (sig.barrier 0 rfl)) v24 8#32) Φ) := by
  simp only [k0_part2_eq_skeleton]; unfold k0_part2_skel
  simp only [Prog.lift, Prog.bind_op, Prog.bind_ret, Prog.pure_eq_ret, semSignalWord]
  iintro ⟨#HC, HO, HR5, HR6, HX, HW0, HW1, HW2⟩ Hk
  iapply (run_ringA m K c 5 1 rfl (by decide) (d := ⟨k0_dev6 c, k0_dev6_lt c⟩) (Fin.ext (k0_dev6_eq c))) $$ [HO HR5]
  · iframe HC HO HR5
  iintro HO
  iapply (run_ringA m K c 6 0 rfl (by decide) (d := ⟨k0_dev7 c, k0_dev7_lt c⟩) (Fin.ext (k0_dev7_eq c))) $$ [HO HR6]
  · iframe HC HO HR6
  iintro HO
  iapply (run_bringX m c sem_x) $$ HX; iintro HX
  iapply (run_bring m c 0 rfl rfl (sem_w 0)) $$ HW0; iintro HW0
  iapply (run_bring m c 1 rfl rfl (sem_w 1)) $$ HW1; iintro HW1
  iapply (run_bring m c 2 rfl rfl (sem_w 2)) $$ HW2; iintro HW2
  iapply (run_ret c)
  iapply Hk
  iframe HO HX HW0 HW1 HW2

/-- The other five start; the rows of `x` have come. -/
theorem part3 {Φ : FVec F S128x1024 .bf16 → sProp 𝕄} :
    iprop(Ctx m K ∗ Ow c (oRe c 8) ∗ xB m c ∗ (wR m c 3 ∗ Any c (wslot 3)) ∗ (wR m c 4 ∗ Any c (wslot 4)) ∗ (wR m c 5 ∗ Any c (wslot 5)) ∗ (wR m c 6 ∗ Any c (wslot 6)) ∗ (wR m c 7 ∗ Any c (wslot 7)))
      ⊢ iprop((iprop(Ow c (oRe c 8) ∗ xA m c ∗ wA m c 3 ∗ wA m c 4 ∗ wA m c 5 ∗ wA m c 6 ∗ wA m c 7)
          -∗ Φ (xb m c))
        -∗ Run c (k0_part3 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10) Φ) := by
  simp only [k0_part3_eq_skeleton]; unfold k0_part3_skel xb
  simp only [Prog.lift, Prog.bind_op, Prog.bind_ret, Prog.pure_eq_ret]
  iintro ⟨#HC, HO, HX, HW3, HW4, HW5, HW6, HW7⟩ Hk
  iapply (run_bring m c 3 rfl rfl (sem_w 3)) $$ HW3; iintro HW3
  iapply (run_bring m c 4 rfl rfl (sem_w 4)) $$ HW4; iintro HW4
  iapply (run_bring m c 5 rfl rfl (sem_w 5)) $$ HW5; iintro HW5
  iapply (run_bring m c 6 rfl rfl (sem_w 6)) $$ HW6; iintro HW6
  iapply (run_bring m c 7 rfl rfl (sem_w 7)) $$ HW7; iintro HW7
  iapply (run_rows m K c 8 sem_x) $$ [HO HX]
  · iframe HC HX HO
  iintro ⟨HX, HO⟩
  iapply (run_ret c)
  iapply Hk
  iframe HO HX HW3 HW4 HW5 HW6 HW7

/-- The first block is formed; the seven signals have come; the block is kept or put in its source slot. -/
theorem part4 {Φ : (Σ' (v96 : BitVec 1), BitVec 32) → sProp 𝕄} :
    iprop(Ctx m K ∗ Ow c (oRe c 8) ∗ cred (tallyAt (barG c) () 7) ∗ atPos ER (barG c) 0 ∅ 0 ∗ (bigSep Finset.univ fun t => send0 c t) ∗ ownA m c 0 ∗ accA m c 0)
      ⊢ iprop((∀ v96, iprop(Ow c (oRe c 8) ∗ semVal (barG c) 0 ∗ sendB m c 0 ∗ sendA c 1 ∗ sendA c 2 ∗ sendA c 3 ∗ sendA c 4 ∗ sendA c 5 ∗ sendA c 6 ∗ sendA c 7 ∗ ownA m c 1 ∗ accD m c 0)
          -∗ Φ ⟨v96, Scalar.extui (Scalar.cmpi .ne (pos c) 0#32)⟩)
        -∗ Run c (k0_part4 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (SemArray.scalar (sig.barrier 0 rfl)) (xb m c)) Φ) := by
  simp only [k0_part4_eq_skeleton]; unfold k0_part4_skel
  simp only [Prog.lift, Prog.bind_op, Prog.bind_ret, Prog.pure_eq_ret, semWaitWord]
  iintro ⟨#HC, HO, Hcr, Hat, HS, HE, HA⟩ Hk
  iapply (run_form m K c 0 8 (sem_w 0) rfl rfl rfl) $$ [HO HA]
  · iframe HC HA HO
  iintro ⟨HA, HO⟩
  iapply (run_barrier m K c) $$ [HO Hcr Hat]
  · iframe HC HO Hcr Hat
  iintro ⟨HO, Hz, HB⟩
  ihave HS := (send0_open c) $$ [HS HB]
  · iframe HS HB
  icases HS with ⟨HS, HS1, HS2, HS3, HS4, HS5, HS6, HS7⟩
  iapply (run_read m c 0 rfl) $$ HA; iintro HA
  iapply (run_keep m c 0 (isEq_iff c 0) 0 rfl rfl rfl) $$ HE; iintro HE
  iapply (run_putOwn m c 0 (C := k0_cond2 c = 1#1) (by revert c; decide) 0 rfl (k0_off1_eq c) rfl (sem_st 7)) $$ HE; iintro HE
  iapply (run_fill m c 0 (isNe_iff c 0) rfl rfl) $$ HS; iintro HS
  iapply (run_ret c)
  iapply Hk
  iframe HO Hz HS HS1 HS2 HS3 HS4 HS5 HS6 HS7 HE HA

end Parts

end Cert.A2A
-- ==== Proof.Blocks.lean ====
/-
# The middle of the body

For each block: form it, then keep it or send it.
-/
module

public import proofs.«01_k».proof.Proof.Body

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 34 → ℕ)

section Parts
variable (c : Dev nD)

theorem accD_intro (t : Fin 8) : iprop(wR m c t ∗ Any c (wslot t) ∗ Holds c (acol t) (prod m c t)) ⊢ accD m c t := by
  unfold accD; iintro H; iexact H

/-- The first block is sent; the second is formed and kept if it is the device's own. -/
theorem part5 {Φ : (Σ' (v103 : BitVec 1) (v118 : FVec F S128x128 .f32) (v126 : BitVec 1) (v128 : BitVec 32), BitVec 32) → sProp 𝕄} :
    iprop(Ctx m K ∗ Ow c (oRe c 8) ∗ sendB m c 0 ∗ ownA m c 1 ∗ accA m c 1)
      ⊢ iprop((∀ v103 v126, iprop(Ow c (oRe c 7) ∗ sendC c 0 ∗ ownA m c 2 ∗ accD m c 1)
          -∗ Φ ⟨v103, k0_pay7 (prod m c 1), v126, Scalar.extui (Scalar.cmpi .ne (pos c) 1#32), 0#32⟩)
        -∗ Run c (k0_part5 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (xb m c) (Scalar.extui (Scalar.cmpi .ne (pos c) 0#32))) Φ) := by
  simp only [k0_part5_eq_skeleton]; unfold k0_part5_skel
  simp only [Prog.lift, Prog.bind_op, Prog.bind_ret, Prog.pure_eq_ret]
  iintro ⟨#HC, HO, HS, HE, HA⟩ Hk
  iapply (run_send m K c 0 (C := k0_cond4 c = 1#1) (by revert c; decide) 7 rfl (d := fun h => ⟨k0_dev8, k0_dev8_lt c h⟩) (fun _ => Fin.ext k0_dev8_eq)
    (fun _ => k0_off3_eq c) rfl (sem_se 0) (fun h => sem_at sem_re c (k0_off2_eq c))) $$ [HO HS]
  · iframe HC HS HO
  iintro ⟨HS, HO⟩
  iapply (run_form m K c 1 7 (sem_w 1) rfl rfl rfl) $$ [HO HA]
  · iframe HC HA HO
  iintro ⟨HA, HO⟩
  iapply (run_read m c 1 rfl) $$ HA; iintro HA
  iapply (run_keep m c 1 (isEq_iff c 1) 1 rfl rfl rfl) $$ HE; iintro HE
  iapply (run_putOwn m c 1 (C := k0_cond6 c = 1#1) (by revert c; decide) 1 rfl (k0_off4_eq c) rfl (sem_st 7)) $$ HE; iintro HE
  iapply (run_ret c)
  iapply Hk
  iframe HO HS HE HA

/-- The second block is sent; the third is formed and kept if it is the device's own. -/
theorem part6 {Φ : (Σ' (v133 : BitVec 1) (v148 : FVec F S128x128 .f32), BitVec 32) → sProp 𝕄} :
    iprop(Ctx m K ∗ Ow c (oRe c 7) ∗ sendA c 1 ∗ ownA m c 2 ∗ accA m c 2)
      ⊢ iprop((∀ v133, iprop(Ow c (oRe c 6) ∗ sendC c 1 ∗ ownA m c 3 ∗ accD m c 2)
          -∗ Φ ⟨v133, k0_pay11 (prod m c 2), 2#32⟩)
        -∗ Run c (k0_part6 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (xb m c) (k0_pay7 (prod m c 1)) (Scalar.extui (Scalar.cmpi .ne (pos c) 1#32)) 0#32) Φ) := by
  simp only [k0_part6_eq_skeleton]; unfold k0_part6_skel
  simp only [Prog.lift, Prog.bind_op, Prog.bind_ret, Prog.pure_eq_ret]
  iintro ⟨#HC, HO, HS, HE, HA⟩ Hk
  iapply (run_fill m c 1 (isNe_iff c 1) rfl rfl) $$ HS; iintro HS
  iapply (run_send m K c 1 (C := k0_cond8 c = 1#1) (by revert c; decide) 6 rfl (d := fun h => ⟨k0_dev9, k0_dev9_lt c h⟩) (fun _ => Fin.ext k0_dev9_eq)
    (fun _ => k0_off6_eq c) rfl (sem_se 1) (fun h => sem_at sem_re c (k0_off5_eq c))) $$ [HO HS]
  · iframe HC HS HO
  iintro ⟨HS, HO⟩
  iapply (run_form m K c 2 6 (sem_w 2) rfl rfl rfl) $$ [HO HA]
  · iframe HC HA HO
  iintro ⟨HA, HO⟩
  iapply (run_read m c 2 rfl) $$ HA; iintro HA
  iapply (run_keep m c 2 (isEq_iff c 2) 2 rfl rfl rfl) $$ HE; iintro HE
  iapply (run_putOwn m c 2 (C := k0_cond10 c = 1#1) (by revert c; decide) 2 rfl (k0_off7_eq c) rfl (sem_st 7)) $$ HE; iintro HE
  iapply (run_ret c)
  iapply Hk
  iframe HO HS HE HA

/-- The third block is sent; the fourth is formed and put in its staging slot if it is the device's own. -/
theorem part7 {Φ : (Σ' (v156 : BitVec 1) (v163 : BitVec 1) (v178 : FVec F S128x128 .f32), BitVec 32) → sProp 𝕄} :
    iprop(Ctx m K ∗ Ow c (oRe c 6) ∗ sendA c 2 ∗ ownA m c 3 ∗ accA m c 3)
      ⊢ iprop((∀ v156 v163, iprop(Ow c (oRe c 5) ∗ sendC c 2 ∗ ownB m c 3 ∗ accD m c 3)
          -∗ Φ ⟨v156, v163, k0_pay15 (prod m c 3), Scalar.extui (Scalar.cmpi .eq (pos c) 3#32)⟩)
        -∗ Run c (k0_part7 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (xb m c) (k0_pay11 (prod m c 2)) 2#32) Φ) := by
  simp only [k0_part7_eq_skeleton]; unfold k0_part7_skel
  simp only [Prog.lift, Prog.bind_op, Prog.bind_ret, Prog.pure_eq_ret]
  iintro ⟨#HC, HO, HS, HE, HA⟩ Hk
  iapply (run_fill m c 2 (isNe_iff c 2) rfl rfl) $$ HS; iintro HS
  iapply (run_send m K c 2 (C := k0_cond12 c = 1#1) (by revert c; decide) 5 rfl (d := fun h => ⟨k0_dev10, k0_dev10_lt c h⟩) (fun _ => Fin.ext k0_dev10_eq)
    (fun _ => k0_off9_eq c) rfl (sem_se 2) (fun h => sem_at sem_re c (k0_off8_eq c))) $$ [HO HS]
  · iframe HC HS HO
  iintro ⟨HS, HO⟩
  iapply (run_form m K c 3 5 (sem_w 3) rfl rfl rfl) $$ [HO HA]
  · iframe HC HA HO
  iintro ⟨HA, HO⟩
  iapply (run_read m c 3 rfl) $$ HA; iintro HA
  iapply (run_keep m c 3 (isEq_iff c 3) 3 rfl rfl rfl) $$ HE; iintro HE
  iapply (run_ret c)
  iapply Hk
  iframe HO HS HE HA

/-- The fourth block is kept or sent; the fifth is formed and put in its staging slot if it is the device's own. -/
theorem part8 {Φ : (Σ' (v186 : BitVec 1) (v193 : BitVec 1) (v208 : FVec F S128x128 .f32), BitVec 32) → sProp 𝕄} :
    iprop(Ctx m K ∗ Ow c (oRe c 5) ∗ sendA c 3 ∗ ownB m c 3 ∗ accA m c 4)
      ⊢ iprop((∀ v186 v193, iprop(Ow c (oRe c 4) ∗ sendC c 3 ∗ ownB m c 4 ∗ accD m c 4)
          -∗ Φ ⟨v186, v193, k0_pay19 (prod m c 4), 128#32⟩)
        -∗ Run c (k0_part8 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (xb m c) (k0_pay15 (prod m c 3)) (Scalar.extui (Scalar.cmpi .eq (pos c) 3#32))) Φ) := by
  simp only [k0_part8_eq_skeleton]; unfold k0_part8_skel
  simp only [Prog.lift, Prog.bind_op, Prog.bind_ret, Prog.pure_eq_ret]
  iintro ⟨#HC, HO, HS, HE, HA⟩ Hk
  iapply (run_putOwn m c 3 (C := k0_cond14 c = 1#1) (by revert c; decide) 3 rfl (k0_off10_eq c) rfl (sem_st 7)) $$ HE; iintro HE
  iapply (run_fill m c 3 (isNe_iff c 3) rfl rfl) $$ HS; iintro HS
  iapply (run_send m K c 3 (C := k0_cond16 c = 1#1) (by revert c; decide) 4 rfl (d := fun h => ⟨k0_dev11, k0_dev11_lt c h⟩) (fun _ => Fin.ext k0_dev11_eq)
    (fun _ => k0_off12_eq c) rfl (sem_se 3) (fun h => sem_at sem_re c (k0_off11_eq c))) $$ [HO HS]
  · iframe HC HS HO
  iintro ⟨HS, HO⟩
  iapply (run_form m K c 4 4 (sem_w 4) rfl rfl rfl) $$ [HO HA]
  · iframe HC HA HO
  iintro ⟨HA, HO⟩
  iapply (run_read m c 4 rfl) $$ HA; iintro HA
  iapply (run_keep m c 4 (isEq_iff c 4) 4 rfl rfl rfl) $$ HE; iintro HE
  iapply (run_ret c)
  iapply Hk
  iframe HO HS HE HA

/-- The fifth block is kept or sent; the sixth is formed. -/
theorem part9 {Φ : (Σ' (v216 : BitVec 1) (v223 : BitVec 1) (v238 : FVec F S128x128 .f32), BitVec 1) → sProp 𝕄} :
    iprop(Ctx m K ∗ Ow c (oRe c 4) ∗ sendA c 4 ∗ ownB m c 4 ∗ accA m c 5)
      ⊢ iprop((∀ v216 v223, iprop(Ow c (oRe c 3) ∗ sendC c 4 ∗ ownA m c 5 ∗ accD m c 5)
          -∗ Φ ⟨v216, v223, k0_pay23 (prod m c 5), Scalar.cmpi .eq (pos c) 5#32⟩)
        -∗ Run c (k0_part9 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (xb m c) (k0_pay19 (prod m c 4)) 128#32) Φ) := by
  simp only [k0_part9_eq_skeleton]; unfold k0_part9_skel
  simp only [Prog.lift, Prog.bind_op, Prog.bind_ret, Prog.pure_eq_ret]
  iintro ⟨#HC, HO, HS, HE, HA⟩ Hk
  iapply (run_putOwn m c 4 (C := k0_cond18 c = 1#1) (by revert c; decide) 4 rfl (k0_off13_eq c) rfl (sem_st 7)) $$ HE; iintro HE
  iapply (run_fill m c 4 (isNe_iff c 4) rfl rfl) $$ HS; iintro HS
  iapply (run_send m K c 4 (C := k0_cond20 c = 1#1) (by revert c; decide) 3 rfl (d := fun h => ⟨k0_dev12, k0_dev12_lt c h⟩) (fun _ => Fin.ext k0_dev12_eq)
    (fun _ => k0_off15_eq c) rfl (sem_se 4) (fun h => sem_at sem_re c (k0_off14_eq c))) $$ [HO HS]
  · iframe HC HS HO
  iintro ⟨HS, HO⟩
  iapply (run_form m K c 5 3 (sem_w 5) rfl rfl rfl) $$ [HO HA]
  · iframe HC HA HO
  iintro ⟨HA, HO⟩
  iapply (run_read m c 5 rfl) $$ HA; iintro HA
  iapply (run_ret c)
  iapply Hk
  iframe HO HS HE HA

/-- The sixth block is kept or sent; the seventh is formed. -/
theorem part10 {Φ : (Σ' (v246 : BitVec 1), BitVec 1) → sProp 𝕄} :
    iprop(Ctx m K ∗ Ow c (oRe c 3) ∗ sendA c 5 ∗ ownA m c 5 ∗ accA m c 6)
      ⊢ iprop((∀ v246 v253, iprop(Ow c (oRe c 2) ∗ sendC c 5 ∗ ownA m c 6 ∗ accD m c 6)
          -∗ Φ ⟨v246, v253⟩)
        -∗ Run c (k0_part10 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (xb m c) (k0_pay23 (prod m c 5)) (Scalar.cmpi .eq (pos c) 5#32)) Φ) := by
  simp only [k0_part10_eq_skeleton]; unfold k0_part10_skel
  simp only [Prog.lift, Prog.bind_op, Prog.bind_ret, Prog.pure_eq_ret]
  iintro ⟨#HC, HO, HS, HE, HA⟩ Hk
  iapply (run_keep m c 5 (isEq_iff c 5) 5 rfl rfl rfl) $$ HE; iintro HE
  iapply (run_putOwn m c 5 (C := k0_cond22 c = 1#1) (by revert c; decide) 5 rfl (k0_off16_eq c) rfl (sem_st 7)) $$ HE; iintro HE
  iapply (run_fill m c 5 (isNe_iff c 5) rfl rfl) $$ HS; iintro HS
  iapply (run_send m K c 5 (C := k0_cond24 c = 1#1) (by revert c; decide) 2 rfl (d := fun h => ⟨k0_dev13, k0_dev13_lt c h⟩) (fun _ => Fin.ext k0_dev13_eq)
    (fun _ => k0_off18_eq c) rfl (sem_se 5) (fun h => sem_at sem_re c (k0_off17_eq c))) $$ [HO HS]
  · iframe HC HS HO
  iintro ⟨HS, HO⟩
  iapply (run_form m K c 6 2 (sem_w 6) rfl rfl rfl) $$ [HO HA]
  · iframe HC HA HO
  iintro ⟨HA, HO⟩
  iapply (run_ret c)
  iapply Hk
  iframe HO HS HE HA

/-- The seventh block is kept or sent; the last column block of the weights has come. -/
theorem part11 {Φ : (Σ' (v276 : BitVec 1) (v283 : BitVec 1) (v292 : FVec F S128x128 .f32), Vec F S128x128 .f32) → sProp 𝕄} :
    iprop(Ctx m K ∗ Ow c (oRe c 2) ∗ sendA c 6 ∗ ownA m c 6 ∗ accD m c 6 ∗ accA m c 7)
      ⊢ iprop((∀ v276 v283 v293, iprop(Ow c (oRe c 1) ∗ sendC c 6 ∗ ownA m c 7 ∗ accD m c 6 ∗ wR m c 7 ∗ Any c (wslot 7) ∗ Any c (acol 7))
          -∗ Φ ⟨v276, v283, k0_pay30 (xb m c) (wb m c 7), v293⟩)
        -∗ Run c (k0_part11 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (xb m c)) Φ) := by
  simp only [k0_part11_eq_skeleton]; unfold k0_part11_skel
  simp only [Prog.lift, Prog.bind_op, Prog.bind_ret, Prog.pure_eq_ret]
  unfold accA
  iintro ⟨#HC, HO, HS, HE, HA, HW, HP⟩ Hk
  iapply (run_read m c 6 rfl) $$ HA; iintro HA
  iapply (run_keep m c 6 (isEq_iff c 6) 6 rfl rfl rfl) $$ HE; iintro HE
  iapply (run_putOwn m c 6 (C := k0_cond26 c = 1#1) (by revert c; decide) 6 rfl (k0_off19_eq c) rfl (sem_st 7)) $$ HE; iintro HE
  iapply (run_fill m c 6 (isNe_iff c 6) rfl rfl) $$ HS; iintro HS
  iapply (run_send m K c 6 (C := k0_cond28 c = 1#1) (by revert c; decide) 1 rfl (d := fun h => ⟨k0_dev14, k0_dev14_lt c h⟩) (fun _ => Fin.ext k0_dev14_eq)
    (fun _ => k0_off21_eq c) rfl (sem_se 6) (fun h => sem_at sem_re c (k0_off20_eq c))) $$ [HO HS]
  · iframe HC HS HO
  iintro ⟨HS, HO⟩
  iapply (run_brought m K c 7 1 (dstw := wflat 7) (sem_w 7) rfl) $$ [HO HW]
  · iframe HC HW HO
  iintro ⟨HH, HW, HO⟩
  iapply (wp_loadH 𝒱₀ c none (m := wrM) (fun _ => rfl)) $$ HH; iintro HH
  iapply (wp_loadAny 𝒱₀ c none (m := acM) (fun _ => rfl)) $$ HP; iintro %V HP
  ihave HH := (holds_any c (wslot 7) (wb m c 7)) $$ HH
  iapply (run_ret c)
  iapply Hk
  iframe HO HS HE HA HW HH HP

/-- The last block is formed, and kept or sent. -/
theorem part12 (v293 : Vec F S128x128 .f32) {Φ : (Σ' (v306 : BitVec 1) (v313 : BitVec 1), BitVec 32) → sProp 𝕄} :
    iprop(Ctx m K ∗ Ow c (oRe c 1) ∗ sendA c 7 ∗ ownA m c 7 ∗ wR m c 7 ∗ Any c (wslot 7) ∗ Any c (acol 7))
      ⊢ iprop((∀ v306 v313 v316, iprop(Ow c (oRe c 0) ∗ sendC c 7 ∗ ownA m c 8 ∗ accD m c 7)
          -∗ Φ ⟨v306, v313, v316⟩)
        -∗ Run c (k0_part12 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) (k0_pay30 (xb m c) (wb m c 7)) v293) Φ) := by
  simp only [k0_part12_eq_skeleton]; unfold k0_part12_skel
  simp only [Prog.lift, Prog.bind_op, Prog.bind_ret, Prog.pure_eq_ret]
  iintro ⟨#HC, HO, HS, HE, HW, HH, HP⟩ Hk
  iapply (wp_storeAny 𝒱₀ c none (m := acM) (fun _ => rfl)) $$ HP; iintro HP
  ihave HA := (accD_intro m c 7) $$ [HW HH HP]
  · iframe HW HH; iexact HP
  iapply (run_read m c 7 rfl) $$ HA; iintro HA
  iapply (run_keep m c 7 (isEq_iff c 7) 7 rfl rfl rfl) $$ HE; iintro HE
  iapply (run_putOwn m c 7 (C := k0_cond30 c = 1#1) (by revert c; decide) 7 rfl (k0_off22_eq c) rfl (sem_st 7)) $$ HE; iintro HE
  iapply (run_fill m c 7 (isNe_iff c 7) rfl rfl) $$ HS; iintro HS
  iapply (run_send m K c 7 (C := k0_cond32 c = 1#1) (by revert c; decide) 0 rfl (d := fun h => ⟨k0_dev15, k0_dev15_lt c h⟩) (fun _ => Fin.ext k0_dev15_eq)
    (fun _ => k0_off24_eq c) rfl (sem_se 7) (fun h => sem_at sem_re c (k0_off23_eq c))) $$ [HO HS]
  · iframe HC HS HO
  iintro ⟨HS, HO⟩
  iapply (run_ret c)
  iapply Hk
  iframe HO HS HE HA

end Parts

end Cert.A2A
-- ==== Proof.Tail.lean ====
/-
# The last part of the body

The peers' blocks are taken and stored; then every copy still under way is waited for.
-/
module

public import proofs.«01_k».proof.Proof.Body

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 34 → ℕ)

section Waits
variable {α : Type} {Q : α → sProp (MT nD τ sig Unit (Elt F) ℕ UU ℕ)} (c : Dev nD) {k : PUnit → Prog (TpuEff nD τ sig (Elt F) Λ₀ .tc) α}

/-- The wait for the copy into the slot of the peer `1 + r` places behind, and the load of what it brought. -/
theorem run_take (r : Fin 7) {k : Vec F S1x128x128 .bf16 → Prog (TpuEff nD τ sig (Elt F) Λ₀ .tc) α} {sR : DmaSem sig} (hR : sR = reS (dn c r))
    {off : Fin 3 → ℕ} {inb : ∀ a, off a + S1x128x128.size a ≤ S8x128x128.size a} (hoff : off = ![(dn c r).val, 0, 0])
    {srcw dstw : Memref sig .tc .vmem S128x128 .bf16} {hsrc : srcw.view.WordExact} {hdst : dstw.view.WordExact}
    {hl : reM.view.LoadsAt (Rect.unit (s := S8x128x128) off S1x128x128.size inb).toLoadRect} :
    iprop(Ctx m K ∗ recvA c (dn c r) ∗ Ow c (oRe c 0))
      ⊢ iprop((iprop(recvB m c (dn c r) ∗ Ow c (oRe c 0)) -∗ Run c (k (sent m (dn c r) c)) Q) -∗ Run c
        (.op (.waitDma2 sR srcw dstw hsrc hdst) fun _ =>
          .op (.load reM (Rect.unit (s := S8x128x128) off S1x128x128.size inb).toLoadRect hl) k) Q) := by
  subst hoff
  have hN : dstw.view.dmaCredit = N := rfl
  iintro ⟨#HC, HA, HO⟩ Hk
  iapply (run_recv m K c (dn c r) (dn_ne c r) hR hN) $$ [HA HO]
  · iframe HC HA HO
  unfold recvB
  iintro ⟨⟨HH, Hz⟩, HO⟩
  iapply (wp_loadH 𝒱₀ c none (m := reM) (fun _ => rfl)) $$ HH; iintro HH
  iapply Hk
  iframe HH Hz HO

/-- The wait for a block's store into the result. -/
theorem run_stored (r s : Fin 8) {V : FVec F S1x128x128 .f32} {sS : DmaSem sig} (hS : sS = stS r)
    {srcw : Memref sig .tc .vmem S128x128 .f32} {dstw : Memref sig .tc .hbm S128x128 .f32} {hsrc : srcw.view.WordExact} {hdst : dstw.view.WordExact} :
    iprop(Ctx m K ∗ putFly c r s V ∗ Ow c (oRe c 0))
      ⊢ iprop((iprop(putD c r s V ∗ Ow c (oRe c 0)) -∗ Run c (k ⟨⟩) Q) -∗ Run c (.op (.waitDma2 sS srcw dstw hsrc hdst) k) Q) :=
  have hN : dstw.view.dmaCredit = No := rfl
  run_putDone m K c r s hS hN

/-- The wait for the store of the device's own block, at the one place it is made. -/
theorem run_ownStored (t : Fin 8) {C : Prop} [Decidable C] (hC : C ↔ t = c) (n : ℕ) (hn : n = t.val) {sS : DmaSem sig} (hS : sS = stS 7)
    {srcw : C → Memref sig .tc .vmem S128x128 .f32} {dstw : C → Memref sig .tc .hbm S128x128 .f32}
    {hsrc : ∀ h, (srcw h).view.WordExact} {hdst : ∀ h, (dstw h).view.WordExact} :
    iprop(Ctx m K ∗ ownD m c n ∗ Ow c (oRe c 0))
      ⊢ iprop((iprop(ownD m c (n + 1) ∗ Ow c (oRe c 0)) -∗ Run c (k ⟨⟩) Q) -∗ Run c
        (if h : C then .op (.waitDma2 sS (srcw h) (dstw h) (hsrc h) (hdst h)) k else k ⟨⟩) Q) :=
  have hN : ∀ h, (dstw h).view.dmaCredit = No := fun _ => rfl
  run_ownDone m K c t hC n hn hS hN

/-- The wait for a block's copy to a peer to have left its source slot. -/
theorem run_left (t : Fin 8) {C : Prop} [Decidable C] (hC : C ↔ ¬ t = c) {sS : DmaSem sig} (hS : sS = seS t)
    {srcw dstw : C → Memref sig .tc .vmem S128x128 .bf16} {hsrc : ∀ h, (srcw h).view.WordExact} {hdst : ∀ h, (dstw h).view.WordExact} :
    iprop(Ctx m K ∗ sendC c t ∗ Ow c (oRe c 0))
      ⊢ iprop((iprop(sendD c t ∗ Ow c (oRe c 0)) -∗ Run c (k ⟨⟩) Q) -∗ Run c
        (if h : C then .op (.waitDma2 sS (srcw h) (dstw h) (hsrc h) (hdst h)) k else k ⟨⟩) Q) :=
  have hN : ∀ h, (dstw h).view.dmaCredit = N := fun _ => rfl
  run_sent m K c t hC hS hN

end Waits

section Parts
variable (c : Dev nD)

/-- The first peer's block is taken and stored; the second's is taken. -/
theorem part13 (v316 : BitVec 32) {Φ : (Σ' (v340 : BitVec 32), Vec F S1x128x128 .bf16) → sProp 𝕄} :
    iprop(Ctx m K ∗ Ow c (oRe c 0) ∗ recvA c (dn c 0) ∗ recvA c (dn c 1) ∗ putA c 0 (dn c 0))
      ⊢ iprop((∀ v340, iprop(Ow c (oRe c 0) ∗ recvB m c (dn c 0) ∗ recvB m c (dn c 1) ∗ putFly c 0 (dn c 0) (k0_pay35 (sent m (dn c 0) c)))
          -∗ Φ ⟨v340, sent m (dn c 1) c⟩)
        -∗ Run c (k0_part13 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) v316) Φ) := by
  simp only [k0_part13_eq_skeleton]; unfold k0_part13_skel
  simp only [Prog.lift, Prog.bind_op, Prog.bind_ret, Prog.pure_eq_ret]
  iintro ⟨#HC, HO, HR0, HR1, HP0⟩ Hk
  iapply (run_take m K c 0 (sem_at sem_re (dn c 0) (k0_off25_eq c 0)) (k0_off27_eq c 0)) $$ [HO HR0]
  · iframe HC HR0 HO
  iintro ⟨HR0, HO⟩
  iapply (run_stage c 0 (dn c 0) rfl) $$ HP0; iintro HP0
  iapply (run_put c 0 (dn c 0) (k0_off28_eq c 0) rfl (sem_st 0)) $$ HP0; iintro HP0
  iapply (run_take m K c 1 (sem_at sem_re (dn c 1) (k0_off25_eq c 1)) (k0_off27_eq c 1)) $$ [HO HR1]
  · iframe HC HR1 HO
  iintro ⟨HR1, HO⟩
  iapply (run_ret c)
  iapply Hk
  iframe HO HR0 HR1 HP0

/-- The second's is stored; the third's is taken and put in its staging slot. -/
theorem part14 (v340 : BitVec 32) {Φ : (Σ' (v364 : BitVec 32), BitVec 32) → sProp 𝕄} :
    iprop(Ctx m K ∗ Ow c (oRe c 0) ∗ recvA c (dn c 2) ∗ putA c 1 (dn c 1) ∗ putA c 2 (dn c 2))
      ⊢ iprop((∀ v364, iprop(Ow c (oRe c 0) ∗ recvB m c (dn c 2) ∗ putFly c 1 (dn c 1) (k0_pay35 (sent m (dn c 1) c)) ∗ putB c 2 (dn c 2) (k0_pay35 (sent m (dn c 2) c)))
          -∗ Φ ⟨v364, 128#32⟩)
        -∗ Run c (k0_part14 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) v340 (sent m (dn c 1) c)) Φ) := by
  simp only [k0_part14_eq_skeleton]; unfold k0_part14_skel
  simp only [Prog.lift, Prog.bind_op, Prog.bind_ret, Prog.pure_eq_ret]
  iintro ⟨#HC, HO, HR2, HP1, HP2⟩ Hk
  iapply (run_stage c 1 (dn c 1) rfl) $$ HP1; iintro HP1
  iapply (run_put c 1 (dn c 1) (k0_off28_eq c 1) rfl (sem_st 1)) $$ HP1; iintro HP1
  iapply (run_take m K c 2 (sem_at sem_re (dn c 2) (k0_off25_eq c 2)) (k0_off27_eq c 2)) $$ [HO HR2]
  · iframe HC HR2 HO
  iintro ⟨HR2, HO⟩
  iapply (run_stage c 2 (dn c 2) rfl) $$ HP2; iintro HP2
  iapply (run_ret c)
  iapply Hk
  iframe HO HR2 HP1 HP2

/-- The third's is stored; the fourth's is taken and put in its staging slot. -/
theorem part15 (v364 : BitVec 32) {Φ : PUnit → sProp 𝕄} :
    iprop(Ctx m K ∗ Ow c (oRe c 0) ∗ recvA c (dn c 3) ∗ putB c 2 (dn c 2) (k0_pay35 (sent m (dn c 2) c)) ∗ putA c 3 (dn c 3))
      ⊢ iprop((iprop(Ow c (oRe c 0) ∗ recvB m c (dn c 3) ∗ putFly c 2 (dn c 2) (k0_pay35 (sent m (dn c 2) c)) ∗ putB c 3 (dn c 3) (k0_pay35 (sent m (dn c 3) c)))
          -∗ Φ ⟨⟩)
        -∗ Run c (k0_part15 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) v364 128#32) Φ) := by
  simp only [k0_part15_eq_skeleton]; unfold k0_part15_skel
  simp only [Prog.lift, Prog.bind_op, Prog.bind_ret, Prog.pure_eq_ret]
  iintro ⟨#HC, HO, HR3, HP2, HP3⟩ Hk
  iapply (run_put c 2 (dn c 2) (k0_off28_eq c 2) rfl (sem_st 2)) $$ HP2; iintro HP2
  iapply (run_take m K c 3 (sem_at sem_re (dn c 3) (k0_off25_eq c 3)) (k0_off27_eq c 3)) $$ [HO HR3]
  · iframe HC HR3 HO
  iintro ⟨HR3, HO⟩
  iapply (run_stage c 3 (dn c 3) rfl) $$ HP3; iintro HP3
  iapply (run_ret c)
  iapply Hk
  iframe HO HR3 HP2 HP3

/-- The fourth's is stored; the fifth's is taken and stored. -/
theorem part16 {Φ : BitVec 32 → sProp 𝕄} :
    iprop(Ctx m K ∗ Ow c (oRe c 0) ∗ recvA c (dn c 4) ∗ putB c 3 (dn c 3) (k0_pay35 (sent m (dn c 3) c)) ∗ putA c 4 (dn c 4))
      ⊢ iprop((∀ v436, iprop(Ow c (oRe c 0) ∗ recvB m c (dn c 4) ∗ putFly c 3 (dn c 3) (k0_pay35 (sent m (dn c 3) c)) ∗ putFly c 4 (dn c 4) (k0_pay35 (sent m (dn c 4) c)))
          -∗ Φ v436)
        -∗ Run c (k0_part16 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c)) Φ) := by
  simp only [k0_part16_eq_skeleton]; unfold k0_part16_skel
  simp only [Prog.lift, Prog.bind_op, Prog.bind_ret, Prog.pure_eq_ret]
  iintro ⟨#HC, HO, HR4, HP3, HP4⟩ Hk
  iapply (run_put c 3 (dn c 3) (k0_off28_eq c 3) rfl (sem_st 3)) $$ HP3; iintro HP3
  iapply (run_take m K c 4 (sem_at sem_re (dn c 4) (k0_off25_eq c 4)) (k0_off27_eq c 4)) $$ [HO HR4]
  · iframe HC HR4 HO
  iintro ⟨HR4, HO⟩
  iapply (run_stage c 4 (dn c 4) rfl) $$ HP4; iintro HP4
  iapply (run_put c 4 (dn c 4) (k0_off28_eq c 4) rfl (sem_st 4)) $$ HP4; iintro HP4
  iapply (run_ret c)
  iapply Hk
  iframe HO HR4 HP3 HP4

/-- The sixth's is taken and stored. -/
theorem part17 (v436 : BitVec 32) {Φ : BitVec 32 → sProp 𝕄} :
    iprop(Ctx m K ∗ Ow c (oRe c 0) ∗ recvA c (dn c 5) ∗ putA c 5 (dn c 5))
      ⊢ iprop((∀ v460, iprop(Ow c (oRe c 0) ∗ recvB m c (dn c 5) ∗ putFly c 5 (dn c 5) (k0_pay35 (sent m (dn c 5) c)))
          -∗ Φ v460)
        -∗ Run c (k0_part17 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c (pos c) v436) Φ) := by
  simp only [k0_part17_eq_skeleton]; unfold k0_part17_skel
  simp only [Prog.lift, Prog.bind_op, Prog.bind_ret, Prog.pure_eq_ret]
  iintro ⟨#HC, HO, HR5, HP5⟩ Hk
  iapply (run_take m K c 5 (sem_at sem_re (dn c 5) (k0_off25_eq c 5)) (k0_off27_eq c 5)) $$ [HO HR5]
  · iframe HC HR5 HO
  iintro ⟨HR5, HO⟩
  iapply (run_stage c 5 (dn c 5) rfl) $$ HP5; iintro HP5
  iapply (run_put c 5 (dn c 5) (k0_off28_eq c 5) rfl (sem_st 5)) $$ HP5; iintro HP5
  iapply (run_ret c)
  iapply Hk
  iframe HO HR5 HP5

/-- The seventh's is taken and stored; the device's own block has been stored if it was among the first four. -/
theorem part18 (v96 v126 v156 v186 v216 : BitVec 1) (v460 : BitVec 32) {Φ : (Σ' (v490 : BitVec 32), BitVec 32) → sProp 𝕄} :
    iprop(Ctx m K ∗ Ow c (oRe c 0) ∗ recvA c (dn c 6) ∗ putA c 6 (dn c 6) ∗ ownD m c 0)
      ⊢ iprop((∀ v490, iprop(Ow c (oRe c 0) ∗ recvB m c (dn c 6) ∗ putFly c 6 (dn c 6) (k0_pay35 (sent m (dn c 6) c)) ∗ ownD m c 4)
          -∗ Φ ⟨v490, 0#32⟩)
        -∗ Run c (k0_part18 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c v96 v126 v156 v186 v216 v460) Φ) := by
  simp only [k0_part18_eq_skeleton]; unfold k0_part18_skel
  simp only [Prog.lift, Prog.bind_op, Prog.bind_ret, Prog.pure_eq_ret]
  iintro ⟨#HC, HO, HR6, HP6, HE⟩ Hk
  iapply (run_take m K c 6 (sem_at sem_re (dn c 6) (k0_off25_eq c 6)) (k0_off27_eq c 6)) $$ [HO HR6]
  · iframe HC HR6 HO
  iintro ⟨HR6, HO⟩
  iapply (run_stage c 6 (dn c 6) rfl) $$ HP6; iintro HP6
  iapply (run_put c 6 (dn c 6) (k0_off28_eq c 6) rfl (sem_st 6)) $$ HP6; iintro HP6
  iapply (run_ownStored m K c 0 (C := k0_cond33 c = 1#1) (by revert c; decide) 0 rfl (sem_st 7)) $$ [HE HO]
  · iframe HC HE HO
  iintro ⟨HE, HO⟩
  iapply (run_ownStored m K c 1 (C := k0_cond34 c = 1#1) (by revert c; decide) 1 rfl (sem_st 7)) $$ [HE HO]
  · iframe HC HE HO
  iintro ⟨HE, HO⟩
  iapply (run_ownStored m K c 2 (C := k0_cond35 c = 1#1) (by revert c; decide) 2 rfl (sem_st 7)) $$ [HE HO]
  · iframe HC HE HO
  iintro ⟨HE, HO⟩
  iapply (run_ownStored m K c 3 (C := k0_cond36 c = 1#1) (by revert c; decide) 3 rfl (sem_st 7)) $$ [HE HO]
  · iframe HC HE HO
  iintro ⟨HE, HO⟩
  iapply (run_ret c)
  iapply Hk
  iframe HO HR6 HP6 HE

/-- The device's own block and the first three of the others have been stored. -/
theorem part19 (v246 v276 v306 : BitVec 1) (v490 : BitVec 32) {Φ : PUnit → sProp 𝕄} :
    iprop(Ctx m K ∗ Ow c (oRe c 0) ∗ ownD m c 4 ∗ putFly c 0 (dn c 0) (k0_pay35 (sent m (dn c 0) c)) ∗ putFly c 1 (dn c 1) (k0_pay35 (sent m (dn c 1) c)) ∗ putFly c 2 (dn c 2) (k0_pay35 (sent m (dn c 2) c)))
      ⊢ iprop((iprop(Ow c (oRe c 0) ∗ ownD m c 8 ∗ putD c 0 (dn c 0) (k0_pay35 (sent m (dn c 0) c)) ∗ putD c 1 (dn c 1) (k0_pay35 (sent m (dn c 1) c)) ∗ putD c 2 (dn c 2) (k0_pay35 (sent m (dn c 2) c)))
          -∗ Φ ⟨⟩)
        -∗ Run c (k0_part19 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c v246 v276 v306 v490 0#32) Φ) := by
  simp only [k0_part19_eq_skeleton]; unfold k0_part19_skel
  simp only [Prog.lift, Prog.bind_op, Prog.bind_ret, Prog.pure_eq_ret]
  iintro ⟨#HC, HO, HE, HP0, HP1, HP2⟩ Hk
  iapply (run_ownStored m K c 4 (C := k0_cond37 c = 1#1) (by revert c; decide) 4 rfl (sem_st 7)) $$ [HE HO]
  · iframe HC HE HO
  iintro ⟨HE, HO⟩
  iapply (run_ownStored m K c 5 (C := k0_cond38 c = 1#1) (by revert c; decide) 5 rfl (sem_st 7)) $$ [HE HO]
  · iframe HC HE HO
  iintro ⟨HE, HO⟩
  iapply (run_ownStored m K c 6 (C := k0_cond39 c = 1#1) (by revert c; decide) 6 rfl (sem_st 7)) $$ [HE HO]
  · iframe HC HE HO
  iintro ⟨HE, HO⟩
  iapply (run_ownStored m K c 7 (C := k0_cond40 c = 1#1) (by revert c; decide) 7 rfl (sem_st 7)) $$ [HE HO]
  · iframe HC HE HO
  iintro ⟨HE, HO⟩
  iapply (run_stored m K c 0 (dn c 0) (sem_st 0)) $$ [HP0 HO]
  · iframe HC HP0 HO
  iintro ⟨HP0, HO⟩
  iapply (run_stored m K c 1 (dn c 1) (sem_st 1)) $$ [HP1 HO]
  · iframe HC HP1 HO
  iintro ⟨HP1, HO⟩
  iapply (run_stored m K c 2 (dn c 2) (sem_st 2)) $$ [HP2 HO]
  · iframe HC HP2 HO
  iintro ⟨HP2, HO⟩
  iapply (run_ret c)
  iapply Hk
  iframe HO HE HP0 HP1 HP2

/-- The other four have been stored; three of the copies to peers have left. -/
theorem part20 (v103 v133 v163 v193 : BitVec 1) {Φ : PUnit → sProp 𝕄} :
    iprop(Ctx m K ∗ Ow c (oRe c 0) ∗ putFly c 3 (dn c 3) (k0_pay35 (sent m (dn c 3) c)) ∗ putFly c 4 (dn c 4) (k0_pay35 (sent m (dn c 4) c)) ∗ putFly c 5 (dn c 5) (k0_pay35 (sent m (dn c 5) c)) ∗ putFly c 6 (dn c 6) (k0_pay35 (sent m (dn c 6) c)) ∗ sendC c 0 ∗ sendC c 1 ∗ sendC c 2)
      ⊢ iprop((iprop(Ow c (oRe c 0) ∗ putD c 3 (dn c 3) (k0_pay35 (sent m (dn c 3) c)) ∗ putD c 4 (dn c 4) (k0_pay35 (sent m (dn c 4) c)) ∗ putD c 5 (dn c 5) (k0_pay35 (sent m (dn c 5) c)) ∗ putD c 6 (dn c 6) (k0_pay35 (sent m (dn c 6) c)) ∗ sendD c 0 ∗ sendD c 1 ∗ sendD c 2)
          -∗ Φ ⟨⟩)
        -∗ Run c (k0_part20 (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10 c v103 v133 v163 v193) Φ) := by
  simp only [k0_part20_eq_skeleton]; unfold k0_part20_skel
  simp only [Prog.lift, Prog.bind_op, Prog.bind_ret, Prog.pure_eq_ret]
  iintro ⟨#HC, HO, HP3, HP4, HP5, HP6, HS0, HS1, HS2⟩ Hk
  iapply (run_stored m K c 3 (dn c 3) (sem_st 3)) $$ [HP3 HO]
  · iframe HC HP3 HO
  iintro ⟨HP3, HO⟩
  iapply (run_stored m K c 4 (dn c 4) (sem_st 4)) $$ [HP4 HO]
  · iframe HC HP4 HO
  iintro ⟨HP4, HO⟩
  iapply (run_stored m K c 5 (dn c 5) (sem_st 5)) $$ [HP5 HO]
  · iframe HC HP5 HO
  iintro ⟨HP5, HO⟩
  iapply (run_stored m K c 6 (dn c 6) (sem_st 6)) $$ [HP6 HO]
  · iframe HC HP6 HO
  iintro ⟨HP6, HO⟩
  iapply (run_left m K c 0 (C := k0_cond41 c = 1#1) (by revert c; decide) (sem_se 0)) $$ [HS0 HO]
  · iframe HC HS0 HO
  iintro ⟨HS0, HO⟩
  iapply (run_left m K c 1 (C := k0_cond42 c = 1#1) (by revert c; decide) (sem_se 1)) $$ [HS1 HO]
  · iframe HC HS1 HO
  iintro ⟨HS1, HO⟩
  iapply (run_left m K c 2 (C := k0_cond43 c = 1#1) (by revert c; decide) (sem_se 2)) $$ [HS2 HO]
  · iframe HC HS2 HO
  iintro ⟨HS2, HO⟩
  iapply (run_ret c)
  iapply Hk
  iframe HO HP3 HP4 HP5 HP6 HS0 HS1 HS2

end Parts

end Cert.A2A
-- ==== Proof.Whole.lean ====
/-
# The whole body

The body of the kernel on one device: what it takes and what it leaves.
-/
module

public import proofs.«01_k».proof.Proof.Blocks
public import proofs.«01_k».proof.Proof.Tail

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 34 → ℕ)

/-- What device `c` starts with, but for what it owes: its signals' duties with its landing slots; the rows of `x`, the columns of
the weights and the slots they are copied into; the slots of the products; the handshake's credit; what each copy to a
peer takes; what each wait for a peer's copy takes; and for each row block of the result its staging slot. -/
def before (c : Dev nD) : sProp 𝕄 :=
  iprop((bigSep Finset.univ fun r => ringA c r) ∗ xA m c ∗ (bigSep Finset.univ fun t : Fin 8 => iprop(wR m c t ∗ Any c (wslot t) ∗ Any c (acol t)))
    ∗ cred (tallyAt (barG c) () 7) ∗ atPos ER (barG c) 0 ∅ 0 ∗ (bigSep Finset.univ fun t => send0 c t) ∗ putA c 7 c
    ∗ (bigSep Finset.univ fun r : Fin 7 => iprop(recvA c (dn c r) ∗ putA c r.castSucc (dn c r))))

/-- What it ends with: every block of the result in its rows, everything else at rest. -/
def after (c : Dev nD) : sProp 𝕄 :=
  iprop(xA m c ∗ (bigSep Finset.univ fun t : Fin 8 => accD m c t) ∗ semVal (barG c) 0 ∗ (bigSep Finset.univ fun t : Fin 8 => sendD c t)
    ∗ putD c 7 c (kept m c)
    ∗ (bigSep Finset.univ fun r : Fin 7 => iprop(recvB m c (dn c r) ∗ putD c r.castSucc (dn c r) (k0_pay35 (sent m (dn c r) c)))))

theorem sep8 (Φ : Fin 8 → sProp 𝕄) : (bigSep Finset.univ Φ : sProp 𝕄) = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem sep7 (Φ : Fin 7 → sProp 𝕄) : (bigSep Finset.univ Φ : sProp 𝕄) = iprop(Φ 0 ∗ Φ 1 ∗ Φ 2 ∗ Φ 3 ∗ Φ 4 ∗ Φ 5 ∗ Φ 6) :=
  bigSep_univ_eq_bigSepL [0, 1, 2, 3, 4, 5, 6] (by decide) (by decide) Φ

theorem accA_intro (c : Dev nD) (t : Fin 8) : iprop(wA m c t ∗ Any c (acol t)) ⊢ accA m c t := by
  unfold accA; iintro H; iexact H
theorem ownA_zero (c : Dev nD) : putA c 7 c = ownA m c 0 := by unfold ownA; rw [if_neg (Nat.not_lt_zero _)]
theorem ownD_zero (c : Dev nD) : ownA m c 8 = ownD m c 0 := by
  unfold ownA ownD; rw [if_pos c.isLt, if_neg (Nat.not_lt_zero _)]
theorem ownD_eight (c : Dev nD) : ownD m c 8 = putD c 7 c (kept m c) := by unfold ownD; rw [if_pos c.isLt]

set_option maxHeartbeats 2000000 in
/-- The body takes `before` to `after`, and has then paid all it owed. -/
theorem body_run (c : Dev nD) {Q : PUnit → sProp 𝕄} :
    iprop(Ctx m K ∗ Ow c (oBar c 7) ∗ before m c)
      ⊢ iprop((iprop(Ow c (oRe c 0) ∗ after m c) -∗ Q ⟨⟩)
        -∗ Run c (cc0_body (F := F) xM (Memref.isWhole_whole _) wM (Memref.isWhole_whole _) oM (Memref.isWhole_whole _) xvM (Memref.isWhole_whole _)
          wrM (Memref.isWhole_whole _) acM (Memref.isWhole_whole _) seM (Memref.isWhole_whole _) reM (Memref.isWhole_whole _) stM (Memref.isWhole_whole _)
          cc0_scratch6 cc0_scratch7 cc0_scratch8 cc0_scratch9 cc0_scratch10) Q) := by
  rw [cc0_body_eq_skeleton]; unfold cc0_body_skel before after
  rw [sep7, sep7, sep7, sep8 (fun t => sendD c t), sep8 (fun t => accD m c t), sep8 (fun t => iprop(wR m c t ∗ Any c (wslot t) ∗ Any c (acol t)))]
  iintro ⟨#HC, HO, ⟨HR0, HR1, HR2, HR3, HR4, HR5, HR6⟩, HX, ⟨⟨HU0, HV0, HA0⟩, ⟨HU1, HV1, HA1⟩, ⟨HU2, HV2, HA2⟩, ⟨HU3, HV3, HA3⟩, ⟨HU4, HV4, HA4⟩, ⟨HU5, HV5, HA5⟩, ⟨HU6, HV6, HA6⟩, ⟨HU7, HV7, HA7⟩⟩, Hcr, Hat, HS, HE, ⟨⟨HT0, HP0⟩, ⟨HT1, HP1⟩, ⟨HT2, HP2⟩, ⟨HT3, HP3⟩, ⟨HT4, HP4⟩, ⟨HT5, HP5⟩, ⟨HT6, HP6⟩⟩⟩ Hk
  iapply (run_bind c)
  iapply (part1 m K c) $$ [HO HR0 HR1 HR2 HR3 HR4]
  · iframe HC HO HR0 HR1 HR2 HR3 HR4
  iintro %v24 HO
  iapply (run_bind c)
  iapply (part2 m K c v24) $$ [HO HR5 HR6 HX HU0 HV0 HU1 HV1 HU2 HV2]
  · iframe HC HO HR5 HR6 HX HU0 HV0 HU1 HV1 HU2 HV2
  iintro ⟨HO, HX, HW0, HW1, HW2⟩
  iapply (run_bind c)
  iapply (part3 m K c) $$ [HO HX HU3 HV3 HU4 HV4 HU5 HV5 HU6 HV6 HU7 HV7]
  · iframe HC HO HX HU3 HV3 HU4 HV4 HU5 HV5 HU6 HV6 HU7 HV7
  iintro ⟨HO, HX, HW3, HW4, HW5, HW6, HW7⟩
  ihave HA0 := (accA_intro m c 0) $$ [HW0 HA0]
  · iframe HW0 HA0
  ihave HA1 := (accA_intro m c 1) $$ [HW1 HA1]
  · iframe HW1 HA1
  ihave HA2 := (accA_intro m c 2) $$ [HW2 HA2]
  · iframe HW2 HA2
  ihave HA3 := (accA_intro m c 3) $$ [HW3 HA3]
  · iframe HW3 HA3
  ihave HA4 := (accA_intro m c 4) $$ [HW4 HA4]
  · iframe HW4 HA4
  ihave HA5 := (accA_intro m c 5) $$ [HW5 HA5]
  · iframe HW5 HA5
  ihave HA6 := (accA_intro m c 6) $$ [HW6 HA6]
  · iframe HW6 HA6
  ihave HA7 := (accA_intro m c 7) $$ [HW7 HA7]
  · iframe HW7 HA7
  ihave HE := (Entails.of_eq (ownA_zero m c)) $$ HE
  iapply (run_bind c)
  iapply (part4 m K c) $$ [HO Hcr Hat HS HE HA0]
  · iframe HC HO Hcr Hat HS HE HA0
  iintro %v96 ⟨HO, Hz, HS0, HS1, HS2, HS3, HS4, HS5, HS6, HS7, HE, HA0⟩
  iapply (run_bind c)
  iapply (part5 m K c) $$ [HO HS0 HE HA1]
  · iframe HC HO HS0 HE HA1
  iintro %v103 %v126 ⟨HO, HS0, HE, HA1⟩
  iapply (run_bind c)
  iapply (part6 m K c) $$ [HO HS1 HE HA2]
  · iframe HC HO HS1 HE HA2
  iintro %v133 ⟨HO, HS1, HE, HA2⟩
  iapply (run_bind c)
  iapply (part7 m K c) $$ [HO HS2 HE HA3]
  · iframe HC HO HS2 HE HA3
  iintro %v156 %v163 ⟨HO, HS2, HE, HA3⟩
  iapply (run_bind c)
  iapply (part8 m K c) $$ [HO HS3 HE HA4]
  · iframe HC HO HS3 HE HA4
  iintro %v186 %v193 ⟨HO, HS3, HE, HA4⟩
  iapply (run_bind c)
  iapply (part9 m K c) $$ [HO HS4 HE HA5]
  · iframe HC HO HS4 HE HA5
  iintro %v216 %v223 ⟨HO, HS4, HE, HA5⟩
  iapply (run_bind c)
  iapply (part10 m K c) $$ [HO HS5 HE HA6]
  · iframe HC HO HS5 HE HA6
  iintro %v246 %v253 ⟨HO, HS5, HE, HA6⟩
  iapply (run_bind c)
  iapply (part11 m K c) $$ [HO HS6 HE HA6 HA7]
  · iframe HC HO HS6 HE HA6 HA7
  iintro %v276 %v283 %v293 ⟨HO, HS6, HE, HA6, HU7, HV7, HA7⟩
  iapply (run_bind c)
  iapply (part12 m K c v293) $$ [HO HS7 HE HU7 HV7 HA7]
  · iframe HC HO HS7 HE HU7 HV7 HA7
  iintro %v306 %v313 %v316 ⟨HO, HS7, HE, HA7⟩
  iapply (run_bind c)
  iapply (part13 m K c v316) $$ [HO HT0 HT1 HP0]
  · iframe HC HO HT0 HT1 HP0
  iintro %v340 ⟨HO, HT0, HT1, HP0⟩
  iapply (run_bind c)
  iapply (part14 m K c v340) $$ [HO HT2 HP1 HP2]
  · iframe HC HO HT2 HP1 HP2
  iintro %v364 ⟨HO, HT2, HP1, HP2⟩
  iapply (run_bind c)
  iapply (part15 m K c v364) $$ [HO HT3 HP2 HP3]
  · iframe HC HO HT3 HP2 HP3
  iintro ⟨HO, HT3, HP2, HP3⟩
  iapply (run_bind c)
  iapply (part16 m K c) $$ [HO HT4 HP3 HP4]
  · iframe HC HO HT4 HP3 HP4
  iintro %v436 ⟨HO, HT4, HP3, HP4⟩
  iapply (run_bind c)
  iapply (part17 m K c v436) $$ [HO HT5 HP5]
  · iframe HC HO HT5 HP5
  iintro %v460 ⟨HO, HT5, HP5⟩
  ihave HE := (Entails.of_eq (ownD_zero m c)) $$ HE
  iapply (run_bind c)
  iapply (part18 m K c v96 v126 v156 v186 v216 v460) $$ [HO HT6 HP6 HE]
  · iframe HC HO HT6 HP6 HE
  iintro %v490 ⟨HO, HT6, HP6, HE⟩
  iapply (run_bind c)
  iapply (part19 m K c v246 v276 v306 v490) $$ [HO HE HP0 HP1 HP2]
  · iframe HC HO HE HP0 HP1 HP2
  iintro ⟨HO, HE, HP0, HP1, HP2⟩
  iapply (run_bind c)
  iapply (part20 m K c v103 v133 v163 v193) $$ [HO HP3 HP4 HP5 HP6 HS0 HS1 HS2]
  · iframe HC HO HP3 HP4 HP5 HP6 HS0 HS1 HS2
  iintro ⟨HO, HP3, HP4, HP5, HP6, HS0, HS1, HS2⟩
  simp only [Prog.lift, Prog.bind_op, Prog.bind_ret, Prog.pure_eq_ret]
  iapply (run_left m K c 3 (C := k0_cond44 c = 1#1) (by revert c; decide) (sem_se 3)) $$ [HS3 HO]
  · iframe HC HS3 HO
  iintro ⟨HS3, HO⟩
  iapply (run_left m K c 4 (C := k0_cond45 c = 1#1) (by revert c; decide) (sem_se 4)) $$ [HS4 HO]
  · iframe HC HS4 HO
  iintro ⟨HS4, HO⟩
  iapply (run_left m K c 5 (C := k0_cond46 c = 1#1) (by revert c; decide) (sem_se 5)) $$ [HS5 HO]
  · iframe HC HS5 HO
  iintro ⟨HS5, HO⟩
  iapply (run_left m K c 6 (C := k0_cond47 c = 1#1) (by revert c; decide) (sem_se 6)) $$ [HS6 HO]
  · iframe HC HS6 HO
  iintro ⟨HS6, HO⟩
  iapply (run_left m K c 7 (C := k0_cond48 c = 1#1) (by revert c; decide) (sem_se 7)) $$ [HS7 HO]
  · iframe HC HS7 HO
  iintro ⟨HS7, HO⟩
  ihave HE := (Entails.of_eq (ownD_eight m c)) $$ HE
  iapply (run_ret c)
  iapply Hk
  iframe HO HX HA0 HA1 HA2 HA3 HA4 HA5 HA6 HA7 Hz HS0 HS1 HS2 HS3 HS4 HS5 HS6 HS7 HE HT0 HP0 HT1 HP1 HT2 HP2 HT3 HP3 HT4 HP4 HT5 HP5 HT6 HP6

end Cert.A2A
-- ==== Proof.Split.lean ====
/-
# Whole buffers and their eight pieces
-/
module

public import proofs.«01_k».proof.Proof.Whole

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (c : Dev nD)

/-- Eight rectangles that are disjoint and cover the shape. -/
structure Tiling {s : Shape} (R : Fin 8 → Rect s) : Prop where
  disj : ∀ t t', t ≠ t' → Disjoint (R t).set (R t').set
  cover : Finset.univ.biUnion (fun t => (R t).set) = Finset.univ

/-- Eight blocks of width `w` along axis `a`, whole along the others, tile the shape. -/
theorem Tiling.along {s : Shape} (a : Fin s.rank) (w : ℕ) {off : Fin 8 → Fin s.rank → ℕ} {size : Fin s.rank → ℕ}
    {inb : ∀ t b, off t b + size b ≤ s.size b} (hw : size a = w) (ha : s.size a = 8 * w) (ho : ∀ t, off t a = w * t.val)
    (hr : ∀ b, b ≠ a → size b = s.size b ∧ ∀ t, off t b = 0) : Tiling fun t => Rect.unit (s := s) (off t) size (inb t) where
  disj t t' h := by
    refine Rect.unit_disjoint a ?_
    rw [ho, ho, hw, ← Nat.mul_succ, ← Nat.mul_succ]
    rcases Nat.lt_or_gt_of_ne (fun e => h (Fin.ext e) : t.val ≠ t'.val) with h | h
    · exact .inl (Nat.mul_le_mul_left w h)
    · exact .inr (Nat.mul_le_mul_left w h)
  cover := by
    refine Finset.eq_univ_iff_forall.mpr fun i => Finset.mem_biUnion.mpr ?_
    have hi : (i a : ℕ) < w * 8 := by rw [Nat.mul_comm, ← ha]; exact (i a).isLt
    have hw0 : 0 < w := by rcases Nat.eq_zero_or_pos w with h | h; · rw [h, Nat.zero_mul] at hi; exact absurd hi (Nat.not_lt_zero _)
                           · exact h
    refine ⟨⟨(i a : ℕ) / w, Nat.div_lt_of_lt_mul hi⟩, Finset.mem_univ _, Rect.mem_set_unit.mpr fun b => ?_⟩
    by_cases hb : b = a
    · subst hb
      rw [ho, hw]
      exact ⟨Nat.mul_div_le _ _, Nat.lt_mul_div_succ _ hw0⟩
    · rw [(hr b hb).1, (hr b hb).2, Nat.zero_add]
      exact ⟨Nat.zero_le _, (i b).isLt⟩

section
variable {b : Ref sig .tc} {R : Fin 8 → Rect b.ty.shape} (hR : Tiling R) (h1 : ∀ t a, (R t).stride a = 1)

omit [FloatOps F] in
include hR in
/-- A whole buffer is its eight pieces. -/
theorem pieces_eq (f : Buf (Elt F) ((c : Thread nD τ).loc b)) :
    (((c : Thread nD τ).loc b) ↦{fullShare} f : sProp 𝕄)
      = bigSep Finset.univ fun t => ((c : Thread nD τ).loc b) ↦[((Memref.whole b).slice (R t) (h1 t)).view.set]{fullShare} f := by
  have h := pointsTo_biUnion (Ix := Unit) (Name := ℕ) (U := UU) (Lvl := ℕ) (ℓ := (c : Thread nD τ).loc b) (q := fullShare) (f := f) Finset.univ (fun t => (R t).set)
    (fun t _ t' _ => hR.disj t t')
  rw [hR.cover] at h
  exact h.trans (bigSep_congr fun t _ => by
    rw [show (R t).set = ((Memref.whole b).slice (R t) (h1 t)).view.set from (View.set_slice_whole b (R t)).symm])

omit [FloatOps F] in
include hR in
/-- Cut, contents forgotten. -/
theorem cut (f : Buf (Elt F) ((c : Thread nD τ).loc b)) :
    (((c : Thread nD τ).loc b) ↦{fullShare} f : sProp 𝕄) ⊢ bigSep Finset.univ fun t => Any c ((Memref.whole b).slice (R t) (h1 t)) := by
  rw [pieces_eq c hR h1 f]
  exact bigSep_mono fun t _ => any_intro c ((Memref.whole b).slice (R t) (h1 t)) f

omit [FloatOps F] in
include hR in
/-- Joined, each piece's contents kept. -/
theorem join_holds [Nonempty (Buf (Elt F) ((c : Thread nD τ).loc b))] (V : (t : Fin 8) → (R t).shape.Idx → Elt F b.ty.elt) :
    (bigSep Finset.univ fun t => Holds c ((Memref.whole b).slice (R t) (h1 t)) (V t) : sProp 𝕄)
      ⊢ iprop(∃ f : Buf (Elt F) ((c : Thread nD τ).loc b), (((c : Thread nD τ).loc b) ↦{fullShare} f)
          ∗ ⌜∀ t, ((Memref.whole b).slice (R t) (h1 t)).view.read (Elt F) f = V t⌝) := by
  have hx : ∀ t, Holds c ((Memref.whole b).slice (R t) (h1 t)) (V t)
      ⊢ (iprop(∃ f : Buf (Elt F) ((c : Thread nD τ).loc b), ⌜((Memref.whole b).slice (R t) (h1 t)).view.read (Elt F) f = V t⌝
          ∗ ((c : Thread nD τ).loc b) ↦[(R t).set]{fullShare} f) : sProp 𝕄) :=
    fun t => by
      unfold Holds; iintro ⟨%f, H, %h⟩; iexists f
      isplitr; · ipureintro; exact h
      rw [show (R t).set = ((Memref.whole b).slice (R t) (h1 t)).view.set from (View.set_slice_whole b (R t)).symm]
      iexact H
  refine (bigSep_mono fun t _ => hx t).trans ((bigSep_exists_pi Finset.univ _).trans ?_)
  iintro ⟨%fs, H⟩
  ihave H := (bigSep_pure_sep Finset.univ (fun t => ((Memref.whole b).slice (R t) (h1 t)).view.read (Elt F) (fs t) = V t)
    (fun t => iprop(((c : Thread nD τ).loc b) ↦[(R t).set]{fullShare} fs t))) $$ H
  icases H with ⟨%hV, H⟩
  ihave H := (pointsTo_biUnion_join Finset.univ (fun t => (R t).set) fs (fs 0) (fun t _ t' _ => hR.disj t t')) $$ H
  icases H with ⟨%g, %hg, H⟩
  iexists g
  isplitl
  · ihave H := (Entails.of_eq (by rw [hR.cover])) $$ H
    iexact H
  · ipureintro
    intro t
    rw [← hV t (Finset.mem_univ t)]
    funext x
    exact hg t (Finset.mem_univ t) _ (by
      rw [show (R t).set = ((Memref.whole b).slice (R t) (h1 t)).view.set from (View.set_slice_whole b (R t)).symm]
      exact View.emb_mem_set _ x)

omit [FloatOps F] in
include hR in
/-- Joined, contents forgotten. -/
theorem join_any (f₀ : Buf (Elt F) ((c : Thread nD τ).loc b)) :
    (bigSep Finset.univ fun t => Any c ((Memref.whole b).slice (R t) (h1 t)) : sProp 𝕄)
      ⊢ iprop(∃ f : Buf (Elt F) ((c : Thread nD τ).loc b), ((c : Thread nD τ).loc b) ↦{fullShare} f) := by
  have hx : ∀ t, Any c ((Memref.whole b).slice (R t) (h1 t))
      ⊢ (iprop(∃ f : Buf (Elt F) ((c : Thread nD τ).loc b), ((c : Thread nD τ).loc b) ↦[(R t).set]{fullShare} f) : sProp 𝕄) :=
    fun t => by
      unfold Any; iintro ⟨%f, H⟩; iexists f
      rw [show (R t).set = ((Memref.whole b).slice (R t) (h1 t)).view.set from (View.set_slice_whole b (R t)).symm]
      iexact H
  have : Nonempty (Buf (Elt F) ((c : Thread nD τ).loc b)) := ⟨f₀⟩
  refine (bigSep_mono fun t _ => hx t).trans ((bigSep_exists_pi Finset.univ _).trans ?_)
  iintro ⟨%fs, H⟩
  ihave H := (pointsTo_biUnion_join Finset.univ (fun t => (R t).set) fs f₀ (fun t _ t' _ => hR.disj t t')) $$ H
  icases H with ⟨%g, -, H⟩
  iexists g
  ihave H := (Entails.of_eq (by rw [hR.cover])) $$ H
  iexact H

end

theorem tiles_slot : Tiling fun t : Fin 8 => Rect.unit (s := S8x128x128) ![t.val, 0, 0] S1x128x128.size (inb_slot t) :=
  Tiling.along (s := S8x128x128) 0 1 rfl rfl (fun t => (Nat.one_mul _).symm) (by decide)
theorem tiles_wslot : Tiling fun t : Fin 8 => Rect.unit (s := S8x1024x128) ![t.val, 0, 0] S1x1024x128.size (inb_wslot t) :=
  Tiling.along (s := S8x1024x128) 0 1 rfl rfl (fun t => (Nat.one_mul _).symm) (by decide)
theorem tiles_wcol : Tiling fun t : Fin 8 => Rect.unit (s := S1024x1024) ![0, 128 * t.val] S1024x128.size (inb_wcol t) :=
  Tiling.along (s := S1024x1024) 1 128 rfl rfl (fun t => rfl) (by decide)
theorem tiles_acol : Tiling fun t : Fin 8 => Rect.unit (s := S128x1024) ![0, 128 * t.val] S128x128.size (inb_acol t) :=
  Tiling.along (s := S128x1024) 1 128 rfl rfl (fun t => rfl) (by decide)
theorem tiles_orow : Tiling fun t : Fin 8 => Rect.unit (s := S1024x128) ![128 * t.val, 0] S128x128.size (inb_orow t) :=
  Tiling.along (s := S1024x128) 0 128 rfl rfl (fun t => rfl) (by decide)

end Cert.A2A
-- ==== Proof.Ghost.lean ====
/-
# What the launch hands out

All semaphores of all devices follow the exchange's schedule from the start. The duties are dealt so that each device
has those it pays itself: its signals to the peers, and its copies. What each device is credited is what its peers owe it.
-/
module

public import proofs.«01_k».proof.Proof.Split

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ)

/-! ## Products over a finite type with one factor taken out -/

omit [FloatOps F] in
/-- All factors: the one at `i`, and those an injection that misses `i` reaches. -/
theorem bigSep_miss {n : ℕ} (i : Fin (n + 1)) (e : Fin n → Fin (n + 1)) (he : Function.Injective e) (hi : ∀ r, e r ≠ i)
    (Φ : Fin (n + 1) → sProp 𝕄) : (bigSep Finset.univ Φ : sProp 𝕄) = iprop(Φ i ∗ bigSep Finset.univ fun r => Φ (e r)) := by
  have h : Finset.univ.erase i = Finset.univ.map ⟨e, he⟩ :=
    (Finset.eq_of_subset_of_card_le (fun x hx => by
      obtain ⟨r, -, rfl⟩ := Finset.mem_map.mp hx
      exact Finset.mem_erase.mpr ⟨hi r, Finset.mem_univ _⟩) (by
      rw [Finset.card_erase_of_mem (Finset.mem_univ _), Finset.card_map, Finset.card_univ, Finset.card_univ, Fintype.card_fin, Fintype.card_fin]
      exact Nat.le_refl _)).symm
  rw [bigSep_univ_at Φ i, h, bigSep_map]
  rfl

theorem up_injective (c : Dev nD) : Function.Injective (up c) := by
  intro r r' h; revert c r r'; decide
theorem dn_injective (c : Dev nD) : Function.Injective (dn c) := by
  intro r r' h; revert c r r'; decide

omit [FloatOps F] in
theorem bigSep_up (c : Dev nD) (Φ : Dev nD → sProp 𝕄) : (bigSep Finset.univ Φ : sProp 𝕄) = iprop(Φ c ∗ bigSep Finset.univ fun r => Φ (up c r)) :=
  bigSep_miss c (up c) (up_injective c) (up_ne c) Φ
omit [FloatOps F] in
theorem bigSep_dn (c : Dev nD) (Φ : Dev nD → sProp 𝕄) : (bigSep Finset.univ Φ : sProp 𝕄) = iprop(Φ c ∗ bigSep Finset.univ fun r => Φ (dn c r)) :=
  bigSep_miss c (dn c) (dn_injective c) (dn_ne c) Φ
omit [FloatOps F] in
theorem bigSep_last (Φ : Fin 8 → sProp 𝕄) : (bigSep Finset.univ Φ : sProp 𝕄) = iprop(Φ 7 ∗ bigSep Finset.univ fun r : Fin 7 => Φ r.castSucc) :=
  bigSep_miss 7 Fin.castSucc (Fin.castSucc_injective 7) (fun r => (Fin.castSucc_lt_last r).ne) Φ

omit [FloatOps F] in
/-- A double product, the other way round. -/
theorem bigSep_flip (Φ : Dev nD → Dev nD → sProp 𝕄) :
    (bigSep Finset.univ fun a => bigSep Finset.univ fun b => Φ a b) = bigSep Finset.univ fun b => bigSep Finset.univ fun a => Φ a b := by
  rw [← bigSep_univ_prod (fun x : Dev nD × Dev nD => Φ x.1 x.2), ← bigSep_univ_prod (fun x : Dev nD × Dev nD => Φ x.2 x.1),
    bigSep_univ_equiv (Equiv.prodComm (Dev nD) (Dev nD)) (fun x : Dev nD × Dev nD => Φ x.1 x.2)]
  rfl

/-! ## The cells -/

/-- The kernel's own semaphores: all that transfers credit. -/
abbrev osem (q : Fin 33) : SemLoc sig := .dma q
theorem ownSemFacts : Pipeline.OwnSemFacts cfg0.spec osem := by decide

theorem csem_succ (q : Fin 33) : csem q.succ = osem q := by
  unfold csem; rw [dif_neg (by rw [Fin.val_succ]; exact Nat.succ_ne_zero _)]; rfl
theorem csem_injective : Function.Injective csem := by
  intro k k' h
  induction k using Fin.cases with
  | zero => induction k' using Fin.cases with
    | zero => rfl
    | succ q' => rw [csem_succ] at h; cases h
  | succ q => induction k' using Fin.cases with
    | zero => rw [csem_succ] at h; cases h
    | succ q' => rw [csem_succ, csem_succ] at h; cases h; rfl

theorem kcell_injective : Function.Injective (kcell : Dev nD × Fin 34 → GSem nD τ sig) := by
  rintro ⟨c, k⟩ ⟨c', k'⟩ h
  have h1 : c = c' := congrArg (fun g : GSem nD τ sig => g.1.1) h
  have h2 : k = k' := csem_injective (congrArg Prod.snd h)
  rw [h1, h2]
def allCells : Finset (GSem nD τ sig) := Finset.univ.map ⟨kcell, kcell_injective⟩

/-- The duties on device `c`'s cells: on its barrier cell, on its send cells, on its receive cells. -/
def tokOf (x : Dev nD × Fin 3 × Fin 8) : GSem nD τ sig × ℕ × Dev nD := match x.2.1 with
  | 0 => (barG x.1, 0, x.2.2) | 1 => (seG x.1 x.2.2, 0, x.1) | 2 => (reG x.1 x.2.2, 0, x.2.2)
theorem se_inj {t t' : Fin 8} (h : seS t = seS t') : t = t' := by revert t t'; decide
theorem re_inj {t t' : Fin 8} (h : reS t = reS t') : t = t' := by revert t t'; decide
theorem se_ne_re (t t' : Fin 8) : seS t ≠ reS t' := by revert t t'; decide
theorem tokOf_injective : Function.Injective tokOf := by
  rintro ⟨c, j, d⟩ ⟨c', j', d'⟩ h
  have h1 : c = c' := by
    have := congrArg (fun x : GSem nD τ sig × ℕ × Dev nD => x.1.1.1) h
    fin_cases j <;> fin_cases j' <;> exact this
  subst h1
  have h2 := congrArg (fun x : GSem nD τ sig × ℕ × Dev nD => (x.1.2, x.2.2)) h
  have : j = j' ∧ d = d' := by
    fin_cases j <;> fin_cases j' <;>
      first
        | exact ⟨rfl, congrArg Prod.snd h2⟩
        | exact ⟨rfl, se_inj (SemLoc.dma.inj (congrArg Prod.fst h2))⟩
        | exact absurd (congrArg Prod.fst h2) (fun h => by cases h)
        | exact absurd (SemLoc.dma.inj (congrArg Prod.fst h2)) (se_ne_re _ _)
        | exact absurd (SemLoc.dma.inj (congrArg Prod.fst h2)).symm (se_ne_re _ _)
  rw [this.1, this.2]
def allToks : Finset (GSem nD τ sig × ℕ × Dev nD) := Finset.univ.map ⟨tokOf, tokOf_injective⟩

/-- The launch element: the launch's own part, the cells and duties, no counters yet. -/
def u₀ : UU := (initOf (Pipeline.cells cfgs cellOf_inj) (Pipeline.launchToks cfgs cellOf_inj), (initOf allCells allToks, 1))

/-- The duties on device `c`'s cells. -/
def toks (c : Dev nD) : sProp 𝕄 :=
  iprop((bigSep Finset.univ fun d : Dev nD => dutyTok ER (barG c) 0 d) ∗ (bigSep Finset.univ fun t : Fin 8 => dutyTok ER (seG c t) 0 c)
    ∗ (bigSep Finset.univ fun s : Fin 8 => dutyTok ER (reG c s) 0 s))
/-- The duties device `c` pays. -/
def pays (c : Dev nD) : sProp 𝕄 :=
  iprop((bigSep Finset.univ fun d : Dev nD => dutyTok ER (barG d) 0 c) ∗ (bigSep Finset.univ fun t : Fin 8 => dutyTok ER (seG c t) 0 c)
    ∗ (bigSep Finset.univ fun t : Fin 8 => dutyTok ER (reG t c) 0 c))

omit [FloatOps F] in
/-- Dealt to those who pay them. -/
theorem toks_dealt : (bigSep Finset.univ fun c : Dev nD => (toks c : sProp 𝕄)) ⊢ bigSep Finset.univ fun c : Dev nD => pays c := by
  unfold toks pays
  rw [bigSep_sep', bigSep_sep', bigSep_sep', bigSep_sep',
    bigSep_flip (fun (c d : Dev nD) => (dutyTok ER (barG c) 0 d : sProp 𝕄)),
    bigSep_flip (fun (c s : Dev nD) => (dutyTok ER (reG c s) 0 s : sProp 𝕄))]

/-- What the launch element holds for device `c`. -/
def G (c : Dev nD) : sProp 𝕄 :=
  iprop((bigSep Finset.univ fun k : Fin 34 => roundState ER (exRd m) (kcell (c, k)) 0)
    ∗ (bigSep Finset.univ fun k : Fin 34 => iprop(atPos ER (kcell (c, k)) 0 ∅ 0 ∗ reached ER (kcell (c, k)) 0)) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Fin 34 => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by
      unfold toks; rw [bigSep_univ_prod, bigSep_univ_eq_bigSepL [0, 1, 2] (by decide) (by decide)]; rfl
  iintro HX
  imod (Rounds.fund ER (exRd m) allCells allToks) $$ HX with ⟨Hst, Hr, Hat, Htok⟩
  imodintro
  ihave Hst := (Entails.of_eq (hX fun g => roundState ER (exRd m) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr Htok

omit [FloatOps F] in
/-- The barrier semaphore is the launch's one unscoped semaphore. -/
theorem unscopedSems0_eq (c : Dev nD) : (unscopedSems0 c : sProp 𝕄) = semVal (barG c) 0 := by
  unfold unscopedSems0; rw [bigSep_eq_bigSepL_of_eq [SemLoc.reg barS] (by decide) (by decide)]; rfl

omit [FloatOps F] in
/-- The two kinds together are all semaphores of the device. -/
theorem sems_eq (c : Dev nD) : (bigSep Finset.univ fun k : Fin 34 => semVal (kcell (c, k)) 0 : sProp 𝕄)
    = iprop(unscopedSems0 c ∗ Pipeline.ownSems0 (Ix := Unit) (Name := ℕ) (U := UU) (Lvl := ℕ) (Val := Elt F) (τ := τ) osem c) := by
  rw [unscopedSems0_eq, bigSep_miss 0 Fin.succ (Fin.succ_injective 33) Fin.succ_ne_zero]
  unfold Pipeline.ownSems0
  exact congrArg (fun X => iprop(semVal (barG c) 0 ∗ X)) (bigSep_congr fun q _ => by unfold kcell; rw [csem_succ])

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) := by
  have hb : iprop((bigSep Finset.univ fun k : Fin 34 => semVal (kcell (c, k)) 0) ∗ bigSep Finset.univ fun k : Fin 34 => roundState ER (exRd m) (kcell (c, k)) 0)
      ⊢ (|={Set.univ}=> bigSep Finset.univ fun k => iprop(∃ κ : ℕ, cellInv ER (exRd m) κ (kcell (c, k))) : sProp 𝕄) := by
    rw [← bigSep_sep']
    exact (bigSep_mono fun k _ => (Rounds.body_intro ER (exRd m) (kcell (c, k))).trans inv_alloc).trans (bigSep_fupd _ _)
  unfold G
  iintro ⟨Hos, Hus, Hst, Hat, Htok⟩
  ihave Hv := (Entails.of_eq (sems_eq (F := F) c).symm) $$ [Hos Hus]
  · iframe Hos Hus
  imod hb $$ [Hv Hst] with Hinv
  · iframe Hv Hst
  imodintro
  iframe Hinv Hat Htok

/-- The cells with their names, all in their first round. -/
def records (K : Dev nD × Fin 34 → ℕ) : sProp 𝕄 :=
  iprop((bigSep Finset.univ fun ck : Dev nD × Fin 34 => cellInv ER (exRd m) (K ck) (kcell ck))
    ∗ bigSep Finset.univ fun ck : Dev nD × Fin 34 => reached ER (kcell ck) 0)
instance records_persistent (K : Dev nD × Fin 34 → ℕ) : BI.Persistent (records m K) := by unfold records; infer_instance

/-- The positions on the device's own cells, and the duties it pays. -/
def own0 (c : Dev nD) : sProp 𝕄 := iprop((bigSep Finset.univ fun k : Fin 34 => atPos ER (kcell (c, k)) 0 ∅ 0) ∗ pays c)

/-- What every device has once the cells are shared. -/
def G' (c : Dev nD) : sProp 𝕄 := iprop(∃ K, records m K ∗ own0 c)

theorem ghost_intro (K : Dev nD × Fin 34 → ℕ) (c : Dev nD) : iprop(records m K ∗ own0 c) ⊢ G' m c := by
  unfold G'; iintro H; iexists K; iexact H

omit [FloatOps F] in
/-- A persistent fact goes to every factor. -/
theorem bigSep_spread {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem regroup :
    (bigSep Finset.univ fun c : Dev nD => iprop((bigSep Finset.univ fun k => iprop(∃ κ : ℕ, cellInv ER (exRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 34 => iprop(∃ κ : ℕ, cellInv ER (exRd m) κ (kcell ck))),
    bigSep_congr (s := Finset.univ) (fun (c : Dev nD) _ => bigSep_sep' Finset.univ (fun k : Fin 34 => (atPos ER (kcell (c, k)) 0 ∅ 0 : sProp 𝕄)) (fun k => reached ER (kcell (c, k)) 0)),
    bigSep_sep', ← bigSep_univ_prod (fun ck : Dev nD × Fin 34 => (reached ER (kcell ck) 0 : sProp 𝕄))]
  iintro ⟨HI, ⟨Hat, #HR⟩, Htok⟩
  ihave HK := (BI.bigSep_exists_pi Finset.univ (fun (ck : Dev nD × Fin 34) (κ : ℕ) => (cellInv ER (exRd m) κ (kcell ck) : sProp 𝕄))) $$ HI
  icases HK with ⟨%K, #HI⟩
  ihave Htok := (toks_dealt (F := F)) $$ Htok
  iapply (bigSep_spread (R := records m K) (Φ := own0) fun c => ghost_intro m K c)
  isplitr
  · unfold records; isplitl; · iexact HI
    iexact HR
  · unfold own0; rw [bigSep_sep']
    iframe Hat Htok

/-- The step over all devices at once: every semaphore becomes a cell. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What a device owes at the launch. -/
abbrev O₀ (c : Dev nD) : CellTallies nD τ sig Unit := oBar c 7

theorem bar_tally (a c : Dev nD) : (tallyAt (barG a) () 1 : CellTallies nD τ sig Unit) (barG c) () = if c = a then 1 else 0 := by
  rw [tallyAt_apply]
  by_cases h : c = a
  · subst h; rw [if_pos ⟨rfl, rfl⟩, if_pos rfl]
  · rw [if_neg h, if_neg fun h' => h (congrArg (fun g : GSem nD τ sig => g.1.1) h'.1)]
theorem re_tally (a d c s : Dev nD) :
    (tallyAt (reG a d) () N : CellTallies nD τ sig Unit) (reG c s) () = (if c = a ∧ s = d then 1 else 0) * N := by
  rw [tallyAt_apply]
  by_cases h : c = a ∧ s = d
  · obtain ⟨rfl, rfl⟩ := h; rw [if_pos ⟨rfl, rfl⟩, if_pos ⟨rfl, rfl⟩, Nat.one_mul]
  · rw [if_neg h, if_neg fun h' => h ⟨congrArg (fun g : GSem nD τ sig => g.1.1) h'.1,
      re_inj (SemLoc.dma.inj (congrArg (fun g : GSem nD τ sig => g.2) h'.1))⟩, Nat.zero_mul]

theorem oRe_bar (d c : Dev nD) (n : ℕ) : oRe d n (barG c) () = 0 := by
  by_contra h
  obtain ⟨e, he⟩ := oRe_pos d n (Nat.pos_of_ne_zero h)
  exact re_ne_bar _ (congrArg Prod.snd he).symm
/-- How many copies device `d` owes cell `s` of device `c`, of its last `n`. -/
def cnt (d c s : Dev nD) : ℕ → ℕ
  | 0 => 0
  | n + 1 => cnt d c s n + if (7 - n) % 8 = d.val then 0 else if c = ⟨(7 - n) % 8, Nat.mod_lt _ (by decide)⟩ ∧ s = d then 1 else 0
theorem oRe_re (d c s : Dev nD) (n : ℕ) : oRe d n (reG c s) () = cnt d c s n * N := by
  induction n with
  | zero => exact (Nat.zero_mul N).symm
  | succ n ih =>
    unfold oRe cnt
    rw [Pi.add_apply, Finsupp.add_apply, ih, Nat.add_mul]
    congr 1
    split
    · rw [Nat.zero_mul]; rfl
    · exact re_tally _ _ _ _
/-- How many signals device `d` owes device `c`, of its last `n`. -/
def sig0 (d c : Dev nD) : ℕ → ℕ
  | 0 => 0
  | n + 1 => sig0 d c n + if c = up d ⟨(6 - n) % 7, Nat.mod_lt _ (by decide)⟩ then 1 else 0
theorem oBar_bar (d c : Dev nD) (n : ℕ) : oBar d n (barG c) () = sig0 d c n := by
  induction n with
  | zero => exact oRe_bar d c 8
  | succ n ih => unfold oBar sig0; rw [Pi.add_apply, Finsupp.add_apply, ih, bar_tally]
theorem oBar_re (d c s : Dev nD) (n : ℕ) : oBar d n (reG c s) () = oRe d 8 (reG c s) () := by
  induction n with
  | zero => rfl
  | succ n ih =>
    unfold oBar
    rw [Pi.add_apply, Finsupp.add_apply, ih, tallyAt_ne_cell (fun h => re_ne_bar _ (congrArg Prod.snd h)), Finsupp.zero_apply, Nat.add_zero]

theorem sum_sig (c : Dev nD) : ∑ d : Dev nD, sig0 d c 7 = 7 := by revert c; decide
theorem sum_cnt (c s : Dev nD) (h : s ≠ c) : ∑ d : Dev nD, cnt d c s 8 = 1 := by revert c s; decide

theorem launch_bar (c : Dev nD) :
    tallyOn (barG c) (launchCredit (Pipeline.owing O₀) 0 (barG c)) = (tallyAt (barG c) () 7 : CellTallies nD τ sig Unit) := by
  unfold tallyAt; refine congrArg _ (Finsupp.ext fun u => ?_); cases u
  rw [Pipeline.launchCredit_owing, Finsupp.single_eq_same, Finset.sum_congr rfl fun d _ => oBar_bar d c 7, sum_sig]
theorem launch_re (c s : Dev nD) (h : s ≠ c) :
    tallyOn (reG c s) (launchCredit (Pipeline.owing O₀) 0 (reG c s)) = (tallyAt (reG c s) () N : CellTallies nD τ sig Unit) := by
  unfold tallyAt; refine congrArg _ (Finsupp.ext fun u => ?_); cases u
  rw [Pipeline.launchCredit_owing, Finsupp.single_eq_same, Finset.sum_congr rfl fun d _ => (oBar_re d c s 7).trans (oRe_re d c s 8),
    ← Finset.sum_mul, sum_cnt c s h, Nat.one_mul]

/-- Each device is credited seven signals, and one block on each cell it receives on. -/
theorem creds (c : Dev nD) :
    (Pipeline.launchCred O₀ c : sProp 𝕄)
      ⊢ iprop(cred (tallyAt (barG c) () 7) ∗ bigSep Finset.univ fun r : Fin 7 => cred (tallyAt (reG c (dn c r)) () N)) := by
  have hi : Function.Injective fun r : Fin 7 => (SemLoc.dma (reS (dn c r)) : SemLoc sig) := fun r r' h =>
    dn_injective c (re_inj (SemLoc.dma.inj h))
  unfold Pipeline.launchCred
  rw [bigSep_univ_at _ (SemLoc.reg barS), launch_bar]
  refine sep_mono_right ?_
  refine (BI.bigSep_subset (t := Finset.univ.map ⟨_, hi⟩) fun x hx => ?_).trans ?_
  · obtain ⟨r, -, rfl⟩ := Finset.mem_map.mp hx
    exact Finset.mem_erase.mpr ⟨re_ne_bar _, Finset.mem_univ _⟩
  · rw [bigSep_map]
    exact Entails.of_eq (bigSep_congr fun r _ => congrArg cred (launch_re c (dn c r) (dn_ne c r)))

end Cert.A2A
-- ==== Proof.Enter.lean ====
/-
# From what a device is launched with to what its body takes, and back

At the start the buffers are cut into the pieces the body works on, and the semaphores no peer credits are taken out of
the schedule. At the end the pieces are joined to whole buffers, and every semaphore reads zero.
-/
module

public import proofs.«01_k».proof.Proof.Ghost

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (K : Dev nD × Fin 34 → ℕ) (c : Dev nD)

/-! ## The semaphores of a device by kind -/

def ixW (t : Fin 8) : Fin 34 := ⟨2 + t.val, by omega⟩
def ixSt (t : Fin 8) : Fin 34 := ⟨10 + t.val, by omega⟩

theorem kcell_x : kcell (c, 1) = ((c : Thread nD τ), .dma xS) := by
  unfold kcell; rw [show csem 1 = .dma xS by decide]
theorem kcell_w (t : Fin 8) : kcell (c, ixW t) = ((c : Thread nD τ), .dma (wS t)) := by
  unfold kcell; rw [show csem (ixW t) = .dma (wS t) by revert t; decide]
theorem kcell_st (t : Fin 8) : kcell (c, ixSt t) = ((c : Thread nD τ), .dma (stS t)) := by
  unfold kcell; rw [show csem (ixSt t) = .dma (stS t) by revert t; decide]

omit [FloatOps F] in
theorem assoc_eq (P Q R : sProp 𝕄) : iprop((P ∗ Q) ∗ R) = iprop(P ∗ Q ∗ R) := equiv_iff.mp ⟨BI.sep_assoc, BI.sep_assoc'⟩

/-- All of them: the barrier's, the one for the rows of `x`, those for the weight columns, those for the result's row
blocks, the send ones, the receive ones. -/
theorem by_kind (Φ : Fin 34 → sProp 𝕄) : (bigSep Finset.univ Φ : sProp 𝕄)
    = iprop(Φ 0 ∗ Φ 1 ∗ (bigSep Finset.univ fun t => Φ (ixW t)) ∗ (bigSep Finset.univ fun t => Φ (ixSt t))
        ∗ (bigSep Finset.univ fun t => Φ (ixSe t)) ∗ (bigSep Finset.univ fun t => Φ (ixRe t))) := by
  rw [bigSep_univ_eq_bigSepL (List.finRange 34) (by decide) (by decide), sep8, sep8, sep8, sep8]
  simp only [assoc_eq]
  rfl

/-- A cell without duties leaves the schedule at once. -/
theorem close_at (k : Fin 34) (h : ∀ r, (exRd m).duties (kcell (c, k)) r = ∅) :
    iprop(Ctx m K ∗ atPos ER (kcell (c, k)) 0 ∅ 0) ⊢ |={Set.univ}=> (semVal (kcell (c, k)) 0 : sProp 𝕄) := by
  iintro ⟨#HC, Hat⟩
  imod (Rounds.cell_close ER (exRd m) (Set.mem_univ (K (c, k))) (fun h => h) (R := 0) (fun r _ => h r)) $$ [Hat] with Hz
  · isplitr; · iapply (inv_at m K (c, k)); iexact HC
    iexact Hat
  imodintro; iexact Hz

theorem close_all (ix : Fin 8 → Fin 34) (h : ∀ t r, (exRd m).duties (kcell (c, ix t)) r = ∅) :
    iprop(Ctx m K ∗ bigSep Finset.univ fun t => atPos ER (kcell (c, ix t)) 0 ∅ 0)
      ⊢ |={Set.univ}=> (bigSep Finset.univ fun t => semVal (kcell (c, ix t)) 0 : sProp 𝕄) :=
  (bigSep_spread (R := Ctx m K) fun t => close_at m K c (ix t) (h t)).trans (bigSep_fupd _ _)

theorem none_x (r : ℕ) : (exRd m).duties (kcell (c, 1)) r = ∅ := by
  rw [kcell_x]; exact duties_none m c (by decide) (by decide) r
theorem none_w (t : Fin 8) (r : ℕ) : (exRd m).duties (kcell (c, ixW t)) r = ∅ := by
  rw [kcell_w]; exact duties_none m c (by revert t; decide) (by revert t; decide) r
theorem none_st (t : Fin 8) (r : ℕ) : (exRd m).duties (kcell (c, ixSt t)) r = ∅ := by
  rw [kcell_st]; exact duties_none m c (by revert t; decide) (by revert t; decide) r
theorem none_se (r : ℕ) : (exRd m).duties (kcell (c, ixSe c)) r = ∅ := by rw [kcell_se]; exact duties_se_self m c r
theorem none_re (r : ℕ) : (exRd m).duties (kcell (c, ixRe c)) r = ∅ := by rw [kcell_re]; exact duties_re_self m c r

/-- A send slot with its duties and its cell, as the body takes it. -/
theorem send_intro (t : Fin 8) :
    iprop(Ctx m K ∗ Any c (slot seM t) ∗ dutyTok ER (seG c t) 0 c ∗ dutyTok ER (reG t c) 0 c ∗ atPos ER (kcell (c, ixSe t)) 0 ∅ 0)
      ⊢ |={Set.univ}=> (send0 c t : sProp 𝕄) := by
  iintro ⟨#HC, Hs, H1, H2, Hat⟩
  unfold send0
  by_cases h : t = c
  · subst h
    rw [if_pos rfl]
    imod (close_at m K t (ixSe t) (none_se m t)) $$ [Hat] with Hz
    · isplitr; · iexact HC
      iexact Hat
    imodintro
    rw [kcell_se]
    iframe Hs Hz
  · rw [if_neg h, kcell_se]
    imodintro
    iframe Hs H1 H2 Hat

/-! ## The buffers -/

theorem whole_set (b : Ref sig .tc) : (Memref.whole b).view.set = Finset.univ := (Memref.isWhole_whole b).set_eq_univ

section
variable {c}
theorem cut_wr (f : Buf (Elt F) ((c : Thread nD τ).loc cc0_scratch1)) :
    (((c : Thread nD τ).loc cc0_scratch1) ↦{fullShare} f : sProp 𝕄) ⊢ bigSep Finset.univ fun t => Any c (wslot t) :=
  cut c tiles_wslot (fun _ _ => rfl) f
theorem cut_ac (f : Buf (Elt F) ((c : Thread nD τ).loc cc0_scratch2)) :
    (((c : Thread nD τ).loc cc0_scratch2) ↦{fullShare} f : sProp 𝕄) ⊢ bigSep Finset.univ fun t => Any c (acol t) :=
  cut c tiles_acol (fun _ _ => rfl) f
theorem cut_se (f : Buf (Elt F) ((c : Thread nD τ).loc cc0_scratch3)) :
    (((c : Thread nD τ).loc cc0_scratch3) ↦{fullShare} f : sProp 𝕄) ⊢ bigSep Finset.univ fun t => Any c (slot seM t) :=
  cut c tiles_slot (fun _ _ => rfl) f
theorem cut_re (f : Buf (Elt F) ((c : Thread nD τ).loc cc0_scratch4)) :
    (((c : Thread nD τ).loc cc0_scratch4) ↦{fullShare} f : sProp 𝕄) ⊢ bigSep Finset.univ fun t => Any c (slot reM t) :=
  cut c tiles_slot (fun _ _ => rfl) f
theorem cut_st (f : Buf (Elt F) ((c : Thread nD τ).loc cc0_scratch5)) :
    (((c : Thread nD τ).loc cc0_scratch5) ↦{fullShare} f : sProp 𝕄) ⊢ bigSep Finset.univ fun t => Any c (slot stM t) :=
  cut c tiles_slot (fun _ _ => rfl) f
theorem cut_o (f : Buf (Elt F) ((c : Thread nD τ).loc main_v1)) :
    (((c : Thread nD τ).loc main_v1) ↦{fullShare} f : sProp 𝕄) ⊢ bigSep Finset.univ fun t => Any c (orow t) :=
  cut c tiles_orow (fun _ _ => rfl) f

theorem any_xv (f : Buf (Elt F) ((c : Thread nD τ).loc cc0_scratch0)) :
    (((c : Thread nD τ).loc cc0_scratch0) ↦{fullShare} f : sProp 𝕄) ⊢ Any c xvM := by
  have h := any_intro c xvM f
  rw [whole_set] at h
  exact h
theorem whole_xv : Any c xvM ⊢ (iprop(∃ f : Buf (Elt F) ((c : Thread nD τ).loc cc0_scratch0), ((c : Thread nD τ).loc cc0_scratch0) ↦{fullShare} f) : sProp 𝕄) := by
  unfold Any; rw [whole_set]
end

theorem x_eq : (((c : Thread nD τ).loc main_arg0) ↦{fullShare} m ((c : Thread nD τ).loc main_arg0) : sProp 𝕄) = xPts m c := by
  unfold xPts; rw [whole_set]
theorem w_eq : (((c : Thread nD τ).loc main_arg1) ↦{fullShare} m ((c : Thread nD τ).loc main_arg1) : sProp 𝕄)
    = bigSep Finset.univ fun t => wPts m c t :=
  pieces_eq c tiles_wcol (fun _ _ => rfl) _

omit [FloatOps F] in
theorem each {n : ℕ} {Φ Ψ : Fin n → sProp 𝕄} (h : ∀ i, Φ i ⊢ Ψ i) : bigSep Finset.univ Φ ⊢ bigSep Finset.univ Ψ :=
  bigSep_mono fun i _ => h i

/-! ## Into the body -/

/-- The arrays and the scratch buffers as the body is entered. -/
def bufs0 : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_v1) ↦{fullShare} m ((c : Thread nD τ).loc main_v1)))
/-- What is credited. -/
def creds0 : sProp 𝕄 := iprop(cred (tallyAt (barG c) () 7) ∗ bigSep Finset.univ fun r : Fin 7 => cred (tallyAt (reG c (dn c r)) () N))

/-- What the body does not touch: the landing slot no one sends to. -/
def idle : sProp 𝕄 := iprop(Any c (slot reM c) ∗ semVal (reG c c) 0)

theorem enter :
    iprop(Ctx m K ∗ own0 c ∗ creds0 c ∗ bufs0 m c ∗ Pipeline.scopedRest cfg0.spec c) ⊢ |={Set.univ}=> iprop(before m c ∗ idle c) := by
  rw [scopedRest0_eq]
  unfold own0 pays creds0 bufs0
  iintro ⟨#HC, ⟨Hp, Hb, Hse, Hre⟩, ⟨HcB, HcR⟩, ⟨Hx, Hw, Ho⟩, ⟨%f0, H0⟩, ⟨%f1, H1⟩, ⟨%f2, H2⟩, ⟨%f3, H3⟩, ⟨%f4, H4⟩, ⟨%f5, H5⟩⟩
  ihave Hp := (Entails.of_eq (by_kind fun k => atPos ER (kcell (c, k)) 0 ∅ 0)) $$ Hp
  icases Hp with ⟨PB, PX, PW, PSt, PSe, PRe⟩
  imod (close_at m K c 1 (none_x m c)) $$ [PX] with PX
  · isplitr; · iexact HC
    iexact PX
  imod (close_all m K c ixW (none_w m c)) $$ [PW] with PW
  · isplitr; · iexact HC
    iexact PW
  imod (close_all m K c ixSt (none_st m c)) $$ [PSt] with PSt
  · isplitr; · iexact HC
    iexact PSt
  ihave PRe := (Entails.of_eq (bigSep_dn c fun s => atPos ER (kcell (c, ixRe s)) 0 ∅ 0)) $$ PRe
  icases PRe with ⟨PR, PRe⟩
  imod (close_at m K c (ixRe c) (none_re m c)) $$ [PR] with PR
  · isplitr; · iexact HC
    iexact PR
  ihave H0 := (any_xv f0) $$ H0
  ihave H1 := (cut_wr f1) $$ H1
  ihave H2 := (cut_ac f2) $$ H2
  ihave H3 := (cut_se f3) $$ H3
  ihave H4 := (cut_re f4) $$ H4
  ihave H5 := (cut_st f5) $$ H5
  ihave Ho := (cut_o (m ((c : Thread nD τ).loc main_v1))) $$ Ho
  ihave Hx := (Entails.of_eq (x_eq m c)) $$ Hx
  ihave Hw := (Entails.of_eq (w_eq m c)) $$ Hw
  imod ((bigSep_spread (S := Finset.univ) (R := Ctx m K) fun t => send_intro m K c t).trans (bigSep_fupd _ _)) $$ [H3 Hse Hre PSe] with HSe
  · simp only [bigSep_sep']
    isplitr; · iexact HC
    iframe H3 Hse Hre PSe
  imodintro
  ihave H4 := (Entails.of_eq (bigSep_up c fun s => Any c (slot reM s))) $$ H4
  icases H4 with ⟨H4c, H4⟩
  ihave H4 := (Entails.of_eq (bigSep_congr fun r _ => any_squeeze c (slot reM (up c r)) squeezes_S1x128x128_S128x128)) $$ H4
  ihave Hb := (Entails.of_eq (bigSep_up c fun d => dutyTok ER (barG d) 0 c)) $$ Hb
  icases Hb with ⟨-, Hb⟩
  ihave H5 := (Entails.of_eq (bigSep_last fun t => Any c (slot stM t))) $$ H5
  icases H5 with ⟨H5c, H5⟩
  ihave PSt := (Entails.of_eq (bigSep_last fun t => semVal (kcell (c, ixSt t)) 0)) $$ PSt
  icases PSt with ⟨PStc, PSt⟩
  ihave Ho := (Entails.of_eq (bigSep_dn c fun s => Any c (orow s))) $$ Ho
  icases Ho with ⟨Hoc, Ho⟩
  unfold before idle ringA xA wR recvA putA
  simp only [bigSep_sep', kcell_x, kcell_w, kcell_st, kcell_re, kcell_bar]
  isplitr [H4c PR]
  · isplitl [Hb H4]
    · isplitl [Hb]; · iexact Hb
      iexact H4
    isplitl [Hx H0 PX]
    · isplitl [Hx]; · iexact Hx
      isplitl [H0]; · iexact H0
      iexact PX
    isplitl [Hw PW H1 H2]
    · isplitl [Hw PW]
      · isplitl [Hw]; · iexact Hw
        iexact PW
      isplitl [H1]; · iexact H1
      iexact H2
    isplitl [HcB]; · iexact HcB
    isplitl [PB]; · iexact PB
    isplitl [HSe]; · iexact HSe
    isplitl [H5c Hoc PStc]
    · isplitl [H5c]; · iexact H5c
      isplitl [Hoc]; · iexact Hoc
      iexact PStc
    isplitl [HcR PRe]
    · isplitl [HcR]; · iexact HcR
      iexact PRe
    isplitl [H5]; · iexact H5
    isplitl [Ho]; · iexact Ho
    iexact PSt
  · isplitl [H4c]; · iexact H4c
    iexact PR

/-! ## Out of the body -/

/-- What the device's arrays end with. -/
def final : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ ∃ f : Buf (Elt F) ((c : Thread nD τ).loc main_v1), (((c : Thread nD τ).loc main_v1) ↦{fullShare} f)
        ∗ ⌜∀ s, (orow s).view.read (Elt F) f = mat (outBlk m c s)⌝)

include m in
theorem join_wr : (bigSep Finset.univ fun t => Any c (wslot t) : sProp 𝕄)
    ⊢ iprop(∃ f : Buf (Elt F) ((c : Thread nD τ).loc cc0_scratch1), ((c : Thread nD τ).loc cc0_scratch1) ↦{fullShare} f) :=
  join_any c tiles_wslot (fun _ _ => rfl) (m ((c : Thread nD τ).loc cc0_scratch1))
include m in
theorem join_ac : (bigSep Finset.univ fun t => Any c (acol t) : sProp 𝕄)
    ⊢ iprop(∃ f : Buf (Elt F) ((c : Thread nD τ).loc cc0_scratch2), ((c : Thread nD τ).loc cc0_scratch2) ↦{fullShare} f) :=
  join_any c tiles_acol (fun _ _ => rfl) (m ((c : Thread nD τ).loc cc0_scratch2))
include m in
theorem join_se : (bigSep Finset.univ fun t => Any c (slot seM t) : sProp 𝕄)
    ⊢ iprop(∃ f : Buf (Elt F) ((c : Thread nD τ).loc cc0_scratch3), ((c : Thread nD τ).loc cc0_scratch3) ↦{fullShare} f) :=
  join_any c tiles_slot (fun _ _ => rfl) (m ((c : Thread nD τ).loc cc0_scratch3))
include m in
theorem join_re : (bigSep Finset.univ fun t => Any c (slot reM t) : sProp 𝕄)
    ⊢ iprop(∃ f : Buf (Elt F) ((c : Thread nD τ).loc cc0_scratch4), ((c : Thread nD τ).loc cc0_scratch4) ↦{fullShare} f) :=
  join_any c tiles_slot (fun _ _ => rfl) (m ((c : Thread nD τ).loc cc0_scratch4))
include m in
theorem join_st : (bigSep Finset.univ fun t => Any c (slot stM t) : sProp 𝕄)
    ⊢ iprop(∃ f : Buf (Elt F) ((c : Thread nD τ).loc cc0_scratch5), ((c : Thread nD τ).loc cc0_scratch5) ↦{fullShare} f) :=
  join_any c tiles_slot (fun _ _ => rfl) (m ((c : Thread nD τ).loc cc0_scratch5))
theorem join_o : (bigSep Finset.univ fun s => Holds c (orow s) (mat (outBlk m c s)) : sProp 𝕄)
    ⊢ iprop(∃ f : Buf (Elt F) ((c : Thread nD τ).loc main_v1), (((c : Thread nD τ).loc main_v1) ↦{fullShare} f)
        ∗ ⌜∀ s, (orow s).view.read (Elt F) f = mat (outBlk m c s)⌝) :=
  haveI : Nonempty (Buf (Elt F) ((c : Thread nD τ).loc main_v1)) := ⟨m ((c : Thread nD τ).loc main_v1)⟩
  join_holds (b := main_v1) (R := fun t : Fin 8 => Rect.unit (s := S1024x128) ![128 * t.val, 0] S128x128.size (inb_orow t)) c tiles_orow (fun _ _ => rfl) (fun s => mat (outBlk m c s))

/-- The device's own row block and the seven it received are all of them. -/
theorem out_eq : (iprop(Holds c (orow c) (mat (kept m c))
      ∗ bigSep Finset.univ fun r : Fin 7 => Holds c (orow (dn c r)) (mat (k0_pay35 (sent m (dn c r) c)))) : sProp 𝕄)
    = bigSep Finset.univ fun s => Holds c (orow s) (mat (outBlk m c s)) := by
  rw [bigSep_dn c fun s => Holds c (orow s) (mat (outBlk m c s)), show outBlk m c c = kept m c from if_pos rfl]
  exact congrArg (fun X => iprop(Holds c (orow c) (mat (kept m c)) ∗ X)) (bigSep_congr fun r _ => by
    rw [show outBlk m c (dn c r) = k0_pay35 (sent m (dn c r) c) from if_neg (dn_ne c r)])

/-- What the body leaves, put together again. -/
theorem leave :
    iprop(after m c ∗ idle c) ⊢ iprop(final m c ∗ Pipeline.scopedRest cfg0.spec c ∗ unscopedSems0 c
      ∗ Pipeline.ownSems0 (Ix := Unit) (Name := ℕ) (U := UU) (Lvl := ℕ) (Val := Elt F) (τ := τ) osem c) := by
  rw [scopedRest0_eq, ← sems_eq, by_kind]
  unfold after idle xA accD wR sendD recvB putD final
  simp only [bigSep_sep', kcell_x, kcell_w, kcell_st, kcell_se, kcell_re, kcell_bar]
  rw [bigSep_dn c fun s => semVal (reG c s) 0, bigSep_last fun t => semVal ((c : Thread nD τ), .dma (stS t)) 0]
  iintro ⟨⟨⟨Hx, H0, PX⟩, ⟨⟨Hw, PW⟩, H1, H2⟩, PB, ⟨H3, PSe⟩, ⟨Hoc, H5c, PStc⟩, ⟨H4, PRe⟩, Ho, H5, PSt⟩, H4c, PR⟩
  ihave Hx := (Entails.of_eq (x_eq m c).symm) $$ Hx
  ihave Hw := (Entails.of_eq (w_eq m c).symm) $$ Hw
  ihave Ho := (Entails.of_eq (out_eq m c)) $$ [Hoc Ho]
  · isplitl [Hoc]; · iexact Hoc
    iexact Ho
  ihave Ho := (join_o m c) $$ Ho
  ihave H0 := whole_xv $$ H0
  ihave H1 := (join_wr m c) $$ H1
  ihave H2 := (each fun t => holds_any c (acol t) (prod m c t)) $$ H2
  ihave H2 := (join_ac m c) $$ H2
  ihave H3 := (join_se m c) $$ H3
  ihave H4 := (each fun r => holds_any c (slot reM (dn c r)) (sent m (dn c r) c)) $$ H4
  ihave H4 := (Entails.of_eq (bigSep_dn c fun s => Any c (slot reM s)).symm) $$ [H4c H4]
  · isplitl [H4c]; · iexact H4c
    iexact H4
  ihave H4 := (join_re m c) $$ H4
  ihave H5 := (Entails.of_eq (bigSep_last fun t => Any c (slot stM t)).symm) $$ [H5c H5]
  · isplitl [H5c]; · iexact H5c
    iexact H5
  ihave H5 := (join_st m c) $$ H5
  isplitl [Hx Hw Ho]
  · isplitl [Hx]; · iexact Hx
    isplitl [Hw]; · iexact Hw
    iexact Ho
  isplitl [H0 H1 H2 H3 H4 H5]
  · isplitl [H0]; · iexact H0
    isplitl [H1]; · iexact H1
    isplitl [H2]; · iexact H2
    isplitl [H3]; · iexact H3
    isplitl [H4]; · iexact H4
    iexact H5
  iframe PX PW PB PSe PStc PRe PSt PR

end Cert.A2A
-- ==== Proof.Run.lean ====
/-
# The run of the whole program

The body's run, set into the launch: every execution on the eight devices ends, with the arguments as they were, every
semaphore at zero, and each row block of each device's result at the block it was sent.
-/
module

public import proofs.«01_k».proof.Proof.Enter
public import proofs.«01_k».proof.Proof.Gen.KernelIdeal.Points
public import Idealize.ShloMosaic.Lib.Pipeline.Quiescent

@[expose] public section

noncomputable section

namespace Cert.A2A

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (Flight)

variable {F : FTy → Type} [FloatOps F]

local notation "𝕄" => MT nD τ sig Unit (Elt F) ℕ UU ℕ

variable (m : (ℓ : Loc nD τ sig) → Buf (Elt F) ℓ) (ρ : Dev nD → PrngReg)

/-- What a device enters its kernel with, but for the scratch buffers. -/
def start (c : Dev nD) : sProp 𝕄 := iprop(∃ K, Ctx m K ∗ own0 c ∗ creds0 c ∗ bufs0 m c)

/-- What it leaves with, but for those. -/
def done (c : Dev nD) : sProp 𝕄 :=
  iprop(unscopedSems0 c ∗ Pipeline.ownSems0 (Ix := Unit) (Name := ℕ) (U := UU) (Lvl := ℕ) (Val := Elt F) (τ := τ) osem c)

/-- The kernel's one point: no array is staged; what is owed at its start is paid at its end. -/
def dats (_ : Fin 1) (c : Dev nD) : Dat τ (Elt F) Unit ℕ UU ℕ cfg0 c where
  A w := w.elim0
  after w _ := w.elim0
  Φ t := match t with
    | ⟨0, _⟩ => iprop(start m c ∗ Pipeline.scopedRest cfg0.spec c)
    | ⟨_ + 1, _⟩ => iprop(final m c ∗ Pipeline.scopedRest cfg0.spec c ∗ done c)
  q _ := fullShare
  owed t := match t with
    | ⟨0, _⟩ => O₀ c
    | ⟨_ + 1, _⟩ => 0

omit [FloatOps F] in
theorem no_windows (Φ : Fin cfg0.W → sProp 𝕄) : (bigSep Finset.univ Φ : sProp 𝕄) = iprop(emp) := by
  show bigSep (Finset.univ : Finset (Fin 0)) Φ = _
  rw [Finset.univ_eq_empty]; exact BI.bigSep_empty

/-- The body at its one point. -/
theorem body_obligation (c : Dev nD) : BodyObligation (dats m 0 c) (defs₀ (F := F)) 𝒱₀ () Set.univ := fun t => by
  rw [fin_N0 t, no_windows, no_windows]
  show iprop(iprop(start m c ∗ Pipeline.scopedRest cfg0.spec c) ∗ (dats m 0 c).owesAt () t0_0.castSucc ∗ emp)
    ⊢ Run c (bodyAt0 (F := F) t0_0) fun _ => iprop(iprop(final m c ∗ Pipeline.scopedRest cfg0.spec c ∗ done c) ∗ (dats m 0 c).owesAt () t0_0.succ ∗ emp)
  unfold Dat.owesAt Pipeline.owesWithin start Run
  rw [show (dats m 0 c).owed t0_0.castSucc = oBar c 7 from rfl, show (dats m 0 c).owed t0_0.succ = 0 from rfl]
  iintro ⟨⟨⟨%K, #HC, Hown, Hcr, Hb⟩, Hsc⟩, ⟨%W, -, HO⟩, -⟩
  imod (enter m K c) $$ [Hown Hcr Hb Hsc] with ⟨Hbef, Hidle⟩
  · isplitr; · iexact HC
    iframe Hown Hcr Hb Hsc
  iapply (body_run m K c) $$ [HO Hbef]
  · isplitr; · iexact HC
    isplitl [HO]; · unfold Ow; iexists W; iexact HO
    iexact Hbef
  iintro ⟨HO, Haf⟩
  ihave H := (leave m c) $$ [Haf Hidle]
  · iframe Haf Hidle
  unfold done Ow
  icases HO with ⟨%W', HO⟩
  isplitl [H]; · iexact H
  isplitl [HO]
  · iexists W'
    isplitr; · ipureintro; exact fun _ _ => Or.inl trivial
    iexact HO
  · iempintro

/-! ## The launch's conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  unfold G' start records Ctx creds0 bufs0
  iintro ⟨Hb, Hlev, Hcr, -, ⟨%K, ⟨HI, HR⟩, Hown⟩⟩
  ihave Hcr := (creds (F := F) c) $$ Hcr
  imodintro
  isplitl
  · iexists K
    isplitl [HI HR Hlev]
    · isplitl [HI]; · iexact HI
      isplitl [HR]; · iexact HR
      iexact Hlev
    isplitl [Hown]; · iexact Hown
    isplitl [Hcr]; · iexact Hcr
    iexact Hb
  · iempintro

theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = iprop(start m c ∗ Pipeline.scopedRest cfg0.spec c) from rfl]
  iintro ⟨Hs, -, Hr⟩
  iframe Hs Hr

theorem last_exit (c : Dev nD) :
    (dats m 0 c).Φ (Fin.last cfg0.N) ⊢ iprop(iprop(final m c ∗ unscopedSems0 c) ∗ Pipeline.ownSems0 osem c ∗ Pipeline.scopedRest cfg0.spec c) := by
  rw [show (dats m 0 c).Φ (Fin.last cfg0.N) = iprop(final m c ∗ Pipeline.scopedRest cfg0.spec c ∗ done c) from rfl]
  unfold done
  iintro ⟨Hf, Hr, Hu, Ho⟩
  iframe Hf Hr Hu Ho

theorem waits (c : Dev nD) : (levAts L lv : sProp 𝕄) ⊢ Pipeline.cellsWaits cfgs (dats m) () 0 c :=
  Pipeline.cellsWaits_intro cfgs (dats m) () 0 c fun w _ _ => w.elim0

/-- What the memory of device `c` holds at the end: its arguments as they were, and each row block of its result. -/
def Ends (c : Dev nD) (s : MemSt nD τ sig (Elt F)) : Prop :=
  s.mem ((c : Thread nD τ).loc main_arg0) = m ((c : Thread nD τ).loc main_arg0)
    ∧ s.mem ((c : Thread nD τ).loc main_arg1) = m ((c : Thread nD τ).loc main_arg1)
    ∧ ∀ t, (orow t).view.read (Elt F) (s.mem ((c : Thread nD τ).loc main_v1)) = mat (outBlk m c t)

theorem read_end (c : Dev nD) (s' : Phys nD τ sig (Elt F)) :
    iprop(iprop(final m c ∗ unscopedSems0 c) ∗ emp ∗ SI s')
      ⊢ (|={Set.univ}=> iprop(⌜Ends m c s'.mem ∧ ∀ sm : SemLoc sig, sm.isScoped .tc = false → s'.mem.sem ((c.tc : Thread nD τ), sm) = 0⌝ ∗ SI s') : sProp 𝕄) := by
  unfold final
  iintro ⟨⟨⟨Hx, Hw, ⟨%f, Ho, %hf⟩⟩, Hu⟩, -, HSI⟩
  ihave %hx := (SI_pointsTo_agree (st := s')) $$ [HSI Hx]
  · isplitl [HSI]; · iexact HSI
    iexact Hx
  ihave %hw := (SI_pointsTo_agree (st := s')) $$ [HSI Hw]
  · isplitl [HSI]; · iexact HSI
    iexact Hw
  ihave %ho := (SI_pointsTo_agree (st := s')) $$ [HSI Ho]
  · isplitl [HSI]; · iexact HSI
    iexact Ho
  ihave %hs := (tcUnscoped_read c s') $$ [Hu HSI]
  · isplitl [Hu]; · iexact Hu
    iexact HSI
  imodintro
  isplitr
  · ipureintro
    refine ⟨⟨Buf.eq_of_forall_mem_univ hx, Buf.eq_of_forall_mem_univ hw, ?_⟩, hs⟩
    rw [Buf.eq_of_forall_mem_univ ho]; exact hf
  · iexact HSI

set_option maxRecDepth 8000 in
/-- For any float values, from any memory with zero counters: every weakly fair execution on the eight devices ends, with
the arguments as they were, every semaphore at zero, and row block `t` of device `c`'s result at the block from device `t`. -/
theorem run_main : θ_run defs (onTc (τ := τ) (main (F := F))) (s₀ m ρ) (fun r => (∀ c, Ends m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun _ w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (show BI.own ((embR (A := UR sig nD τ)) ((initOf allCells allToks, 1) : UB × Counters)) ⊢ (|==> bigSep Finset.univ (G m) : sProp 𝕄) from fund_all m) $$ HX with HG
      imodintro
      isplitl [HP] <;> iassumption)
    (hglob := glob m)
    (hA := fun _ w => w.elim0) (hpf := fun _ k => k.elim0)
    (X := start m) (Y := fun c => iprop(final m c ∗ unscopedSems0 c)) (Z := fun _ => iprop(emp))
    (hX := start_intro m ρ) (hin := first_intro m) (hout := last_exit m)
    (QY := fun c s => Ends m c s ∧ ∀ sm : SemLoc sig, sm.isScoped .tc = false → s.sem ((c.tc : Thread nD τ), sm) = 0)
    (hY := read_end m)
    (hQ := fun _ h hs => ⟨fun c => (h c).2.2.1, sem_eq_zero hs fun c => (h c).2.2.2⟩)

end Cert.A2A
-- ==== Proof.Swish.lean ====
/-
# The scalar function: y / (1 + exp(-y)), also with its clip, over the extended reals
-/
module

public import Idealize.ShloMosaic.Lib.IdealHost
public import Idealize.ShloMosaic.PureOps.Ideal.Laws

@[expose] public section

noncomputable section

namespace Cert.A2A

open Idealize.ShloMosaic

/-- The activation, as the kernel has it: `y` times its logistic value. -/
def swish (y : EReal) : EReal := y * Ideal.logistic y

/-- One plus an exponential is not zero, at the infinities too. -/
theorem one_add_exp_ne_zero (y : EReal) : (1 : EReal) + Ideal.exp y ≠ 0 := by
  have h : (0 : EReal) ≤ Ideal.exp y := by
    induction y using EReal.rec with
    | bot => exact le_of_eq rfl
    | top => exact le_top
    | coe r => exact EReal.coe_nonneg.mpr (Real.exp_pos r).le
  have : (0 : EReal) < 1 + Ideal.exp y := lt_of_lt_of_le zero_lt_one (le_add_of_nonneg_right h)
  exact this.ne'

/-- The quotient `y / (1 + exp(-y))` is that product, for every extended real `y`. -/
theorem swish_eq_div (y : EReal) : swish y = Ideal.div y (1 + Ideal.exp (-y)) := by
  unfold swish Ideal.logistic Ideal.div
  rw [if_neg (one_add_exp_ne_zero _), if_neg (one_add_exp_ne_zero _), one_mul]

/-- Clipping to `[-h, h]` leaves alone a number whose absolute value is at most `h`. -/
theorem clip_of_abs_le {y h : EReal} (hy : max y (-y) ≤ h) : min h (max (-h) y) = y := by
  have h1 : y ≤ h := (le_max_left _ _).trans hy
  have h2 : -h ≤ y := EReal.neg_le.mp ((le_max_right _ _).trans hy)
  rw [max_eq_right h2, min_eq_right h1]

/-- The word of 60. -/
theorem ofBits_sixty : Ideal.ofBits .f32 0x42700000#32 = ((60 : ℝ) : EReal) := by
  simp [Ideal.ofBits, Ideal.ieee, -EReal.coe_mul]
  norm_num

/-- The word of -60. -/
theorem ofBits_neg_sixty : Ideal.ofBits .f32 0xC2700000#32 = -((60 : ℝ) : EReal) := by
  simp [Ideal.ofBits, Ideal.ieee, -EReal.coe_mul]
  norm_num

end Cert.A2A
-- ==== Proof.Value.lean ====
/-
# What the eight devices' results hold, over the extended reals

Each device's result is its column block of the activated product of the whole arrays.
-/
module

public import proofs.«01_k».proof.Proof.Run
public import proofs.«01_k».proof.Proof.Swish
public import Idealize.ShloMosaic.Lib.MatmulPlain
public import Idealize.ShloMosaic.Lib.Pipeline.Value
public import Idealize.ShloMosaic.Lib.Layout

@[expose] public section

noncomputable section

namespace Cert.A2A

open Cert.KernelIdeal Cert.KernelIdeal.Gen
open Idealize.ShloMosaic
open Idealize.ShloMosaic.TcCoe
open Idealize.ShloMosaic.ValueIdx

/-- Entry (r, j) of the product of the whole arrays. -/
def lin (X W : S1024x1024.Idx → EReal) (r j : Fin 1024) : EReal := ∑ k : Fin 1024, X (ix2 r k) * W (ix2 k j)

/-- The activated product of the whole arrays. -/
def whole (X W : S1024x1024.Idx → EReal) : S1024x1024.Idx → EReal := fun i => swish (lin X W (i 0) (i 1))

/-- Place `a` of block `t`, among the eight blocks of 128. -/
def at8 (t : Fin 8) (a : Fin 128) : Fin 1024 := ⟨128 * t.val + a.val, by omega⟩

/-- Every place among 1024 is one in one of the blocks. -/
theorem exists_at8 (r : Fin 1024) : ∃ t a, r = at8 t a :=
  ⟨⟨r.val / 128, by omega⟩, ⟨r.val % 128, by omega⟩, Fin.ext (by simp only [at8]; omega)⟩

/-! ## Indices of the pieces -/

/-- Entry (a, b) of row block `t` of a result. -/
theorem orow_read (t : Fin 8) (f : S1024x128.Idx → EReal) (a b : Fin 128) :
    (orow t).view.read (Elt Ideal) f (ix2 a b) = f (ix2 (at8 t a) b) := by
  refine congrArg f (funext fun x => Fin.ext ?_)
  match x with
  | ⟨0, _⟩ => show 128 * t.val + 1 * a.val = 128 * t.val + a.val; omega
  | ⟨1, _⟩ => show 0 + 1 * b.val = b.val; omega

/-- Entry (k, b) of column block `t` of the weights. -/
theorem wcol_read (t : Fin 8) (f : S1024x1024.Idx → EReal) (k : Fin 1024) (b : Fin 128) :
    (wcol t).view.read (Elt Ideal) f (ix2 k b) = f (ix2 k (at8 t b)) := by
  refine congrArg f (funext fun x => Fin.ext ?_)
  match x with
  | ⟨0, _⟩ => show 0 + 1 * k.val = k.val; omega
  | ⟨1, _⟩ => show 128 * t.val + 1 * b.val = 128 * t.val + b.val; omega

/-- Entry (a, k) of device `c`'s block of rows. -/
theorem rows_block (c : Fin 8) (X : S1024x1024.Idx → EReal) (a : Fin 128) (k : Fin 1024) :
    Layout.block ⟨2, ![128, 1024]⟩ ⟨2, ![1024, 1024]⟩ 0 8 c X (by decide) (ix2 a k) = X (ix2 (at8 c a) k) := by
  refine congrArg X (funext fun x => Fin.ext ?_)
  match x with
  | ⟨0, _⟩ => show c.val * 128 + a.val = 128 * c.val + a.val; omega
  | ⟨1, _⟩ => rfl

/-- Where entry (r, b) of device `c`'s block of columns is. -/
theorem cols_idx (c : Fin 8) (h : Layout.Tiles ⟨2, ![1024, 128]⟩ ⟨2, ![1024, 1024]⟩ 1 8) (r : Fin 1024) (b : Fin 128) :
    h.idx c (ix2 r b) = ix2 r (at8 c b) := by
  refine funext fun x => Fin.ext ?_
  match x with
  | ⟨0, _⟩ => rfl
  | ⟨1, _⟩ => show c.val * 128 + b.val = 128 * c.val + b.val; omega

/-! ## One block -/

variable (m : (ℓ : Loc nD τ sig) → Buf (Elt Ideal) ℓ)

/-- The product of one block of rows with one block of columns, entry by entry. -/
theorem prod_apply (c t : Dev nD) (a b : Fin 128) (A : S128x1024.Idx → EReal) (B : S1024x1024.Idx → EReal)
    (hA : m ((c : Thread nD τ).loc main_arg0) = A) (hB : m ((c : Thread nD τ).loc main_arg1) = B) :
    prod m c t (ix2 a b) = ∑ k : Fin 1024, A (ix2 a k) * B (ix2 k (at8 t b)) := by
  unfold prod k0_pay2
  refine (congrFun (shapeCast_self _ _) (ix2 a b)).trans ?_
  refine (Ideal.matmul_plain_apply (M := 128) (K := 1024) (N := 128) none _ _ _ a b).trans ?_
  refine (congrArg (· + _) Ideal.ofBits_zero_f32).trans ((zero_add _).trans (Finset.sum_congr rfl fun k _ => ?_))
  refine congrArg₂ (fun u v : EReal => u * v) (congrFun hA _) ?_
  refine Eq.trans ?_ (wcol_read t B k b)
  subst hB
  exact congrArg ((wcol t).view.read (Elt Ideal) (m ((c : Thread nD τ).loc main_arg1))) (Equiv.symm_apply_apply _ _)

/-- Reading a block back from the shape with a leading 1. -/
theorem mat_cast {e : EltTy} (v : S128x128.Idx → Elt Ideal e) :
    mat (shapeCast S1x128x128 v shapeCasts_S128x128_S1x128x128) = v :=
  shapeCast_shapeCast v _ squeezes_S1x128x128_S128x128.numel_eq

/-- The block of device `c`'s result that comes from device `s`: the activated product. Rounding to the format of the
exchange and back changes nothing over the extended reals. -/
theorem outBlk_apply (c s : Dev nD) (y : S128x128.Idx) :
    mat (F := Ideal) (e := .f32) (outBlk m c s) y = swish (prod m s c y) := by
  unfold outBlk
  split_ifs with h
  · subst h
    exact congrFun (mat_cast (e := .f32) (k0_pay3 (prod m s s))) y
  · refine (congrFun (mat_cast (e := .f32) _) y).trans ?_
    exact congrFun (mat_cast (e := .bf16) (truncf .bf16 (k0_pay3 (prod m s c)) bitsLt_bf16_f32)) y

/-- If the devices' arguments are the row blocks of `X`, and all of `W`, the block is that part of the activated product. -/
theorem outBlk_whole (X W : S1024x1024.Idx → EReal)
    (hx : ∀ c : Dev nD, m ((c : Thread nD τ).loc main_arg0) = Layout.block ⟨2, ![128, 1024]⟩ ⟨2, ![1024, 1024]⟩ 0 8 c X (by decide))
    (hw : ∀ c : Dev nD, m ((c : Thread nD τ).loc main_arg1) = W) (c s : Dev nD) (a b : Fin 128) :
    mat (F := Ideal) (e := .f32) (outBlk m c s) (ix2 a b) = swish (lin X W (at8 s a) (at8 c b)) := by
  rw [outBlk_apply, prod_apply m s c a b _ _ (hx s) (hw s)]
  unfold lin
  exact congrArg swish (Finset.sum_congr rfl fun k _ => by rw [rows_block])

/-- and device `c`'s result is column block `c` of the activated product. -/
theorem ends_whole (X W : S1024x1024.Idx → EReal)
    (hx : ∀ c : Dev nD, m ((c : Thread nD τ).loc main_arg0) = Layout.block ⟨2, ![128, 1024]⟩ ⟨2, ![1024, 1024]⟩ 0 8 c X (by decide))
    (hw : ∀ c : Dev nD, m ((c : Thread nD τ).loc main_arg1) = W) (c : Dev nD) {s : MemSt nD τ sig (Elt Ideal)} (h : Ends m c s) :
    s.mem ((c : Thread nD τ).loc main_v1) = Layout.block ⟨2, ![1024, 128]⟩ ⟨2, ![1024, 1024]⟩ 1 8 c (whole X W) (by decide) := by
  refine funext fun (i : S1024x128.Idx) => ?_
  obtain ⟨r, b, rfl⟩ : ∃ r b, i = ix2 r b := ⟨i 0, i 1, eq_ix2 i⟩
  obtain ⟨t, a, rfl⟩ := exists_at8 r
  rw [Layout.block_apply, cols_idx]
  refine (orow_read t _ a b).symm.trans ?_
  rw [h.2.2 t, outBlk_whole m X W hx hw]
  rfl

end Cert.A2A
-- ==== Proof.Refs.lean ====
/-
# What the two references hold, over the extended reals

The reference without the clip holds the activated product; the reference with it does so wherever the product is at most
60 in absolute value.
-/
module

public import proofs.«01_k».proof.Proof.Value
public import proofs.«01_k».proof.On_unclipped
public import proofs.«01_k».proof.Proof.Gen.On_unclipped
public import proofs.«01_k».proof.Proof.Gen.ReferenceIdeal
public import proofs.«01_k».proof.Proof.Gen.SiluIdeal
public import Idealize.ShloMosaic.Lib.StackMember

@[expose] public section

noncomputable section

namespace Cert.A2A

open Idealize.ShloMosaic
open Idealize.ShloMosaic.ValueIdx

/-- A comparison's bit is set only if the comparison holds. -/
theorem of_ofBool {p : Prop} [Decidable p] (h : BitVec.ofBool (decide p) = 1#1) : p := by
  by_contra hp
  rw [decide_eq_false hp] at h
  exact absurd h (by decide)

/-- The host's product, entry by entry. -/
theorem host_lin (X W : FVec Ideal ⟨2, ![1024, 1024]⟩ .f32) (i : (⟨2, ![1024, 1024]⟩ : Shape).Idx) :
    Host.dotGeneral (DotDims.plain 1024 1024 1024) none X W i = lin X W (i 0) (i 1) := by
  rw [eq_ix2 i]; exact StackMember.dotGeneral_plain_apply (m := 1024) (n := 1024) (k := 1024) none X W (i 0) (i 1)

section Silu
open Cert.SiluIdeal Cert.SiluIdeal.Gen

/-- The result of the reference without the clip, as its host operations compose. -/
def siluOf (X W : FVec Ideal S1024x1024 .f32) : FVec Ideal S1024x1024 .f32 :=
  let y := Host.dotGeneral dot_S1024x1024_S1024x1024_S1024x1024_1_0_0_1_n_n none X W
  Host.divf y (addf (broadcastInDim S1024x1024 ![] bcast_S_S1024x1024 (constant S_ .f32 0x3F800000#32)) (Host.exp (Host.negf y)))

/-- It is the activated product. -/
theorem siluOf_eq (X W : FVec Ideal S1024x1024 .f32) : siluOf X W = whole X W := by
  funext i
  show Ideal.div (Host.dotGeneral (DotDims.plain 1024 1024 1024) none X W i)
    (Ideal.ofBits .f32 0x3F800000#32 + Ideal.exp (-(Host.dotGeneral (DotDims.plain 1024 1024 1024) none X W i))) = _
  rw [host_lin, Ideal.ofBits_one_f32, ← swish_eq_div]
  rfl

end Silu

section Reference
open Cert.ReferenceIdeal Cert.ReferenceIdeal.Gen

/-- The result of the reference, as its host operations compose. -/
def refOf (X W : FVec Ideal S1024x1024 .f32) : FVec Ideal S1024x1024 .f32 :=
  let y := Host.dotGeneral dot_S1024x1024_S1024x1024_S1024x1024_1_0_0_1_n_n none X W
  Host.divf y (addf (broadcastInDim S1024x1024 ![] bcast_S_S1024x1024 (constant S_ .f32 0x3F800000#32))
    (Host.exp (Host.negf (minimumf (broadcastInDim S1024x1024 ![] bcast_S_S1024x1024 (id (constant S_ .f32 0x42700000#32)))
      (maximumf (broadcastInDim S1024x1024 ![] bcast_S_S1024x1024 (id (constant S_ .f32 0xC2700000#32))) y)))))

/-- Wherever the product is at most 60 in absolute value it is the activated product. -/
theorem refOf_eq (X W : FVec Ideal S1024x1024 .f32) (i : S1024x1024.Idx)
    (h : Cert.On_unclipped.fn (F := Ideal) X W i = 1#1) : refOf X W i = whole X W i := by
  have hy : max (lin X W (i 0) (i 1)) (-(lin X W (i 0) (i 1))) ≤ ((60 : ℝ) : EReal) := by
    have h' : Ideal.cmp .ole (max (Host.dotGeneral (DotDims.plain 1024 1024 1024) none X W i)
      (-(Host.dotGeneral (DotDims.plain 1024 1024 1024) none X W i))) (Ideal.ofBits .f32 0x42700000#32) = 1#1 := h
    rw [host_lin, ofBits_sixty] at h'
    exact of_ofBool h'
  show Ideal.div (Host.dotGeneral (DotDims.plain 1024 1024 1024) none X W i)
    (Ideal.ofBits .f32 0x3F800000#32 + Ideal.exp (-(min (Ideal.ofBits .f32 0x42700000#32)
      (max (Ideal.ofBits .f32 0xC2700000#32) (Host.dotGeneral (DotDims.plain 1024 1024 1024) none X W i))))) = _
  rw [host_lin, Ideal.ofBits_one_f32, ofBits_sixty, ofBits_neg_sixty, clip_of_abs_le hy, ← swish_eq_div]
  rfl

end Reference

end Cert.A2A
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.On_unclipped
public import proofs.«01_k».proof.Proof.Gen.SiluIdeal
public import proofs.«01_k».proof.Proof.Gen.SiluIdeal.Run
public import proofs.«01_k».proof.Proof.Run
public import proofs.«01_k».proof.Proof.Refs
public import Idealize.ShloMosaic.Adequacy
public import Idealize.ShloMosaic.Init

@[expose] public section

noncomputable section

namespace Cert.Proof

open Idealize.ShloMosaic Idealize.ShloMosaic.TcCoe Idealize.SL.Sem

/-- On words: every execution of the kernel on the eight devices ends, its arguments as they were and every semaphore at zero.
The kernel and its ideal instance are one text, so this is the run of `run_main` read at the machine's floats. -/
theorem frame_kernel : Cert.quiescent_Kernel := fun m ρ _ =>
  (θ_run Cert.KernelIdeal.defs _ _).mono (fun _ h => ⟨fun c => ⟨(h.1 c).1, (h.1 c).2.1⟩, h.2⟩) (Cert.A2A.run_main (F := Bits) m ρ)

/-- The same over the extended reals. -/
theorem frame_kernelIdeal : Cert.quiescent_KernelIdeal := fun m ρ _ =>
  (θ_run Cert.KernelIdeal.defs _ _).mono (fun _ h => ⟨fun c => ⟨(h.1 c).1, (h.1 c).2.1⟩, h.2⟩) (Cert.A2A.run_main (F := Ideal) m ρ)

/-- The reference runs to its end, its arguments as they were; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference without the clip runs to its end, its arguments as they were; it has no semaphore. -/
theorem frame_silu : Cert.quiescent_SiluIdeal := fun m ρ _ =>
  (θ_run Cert.SiluIdeal.defs _ _).mono (fun r h => ⟨fun c => (h c).2, sem_eq_zero_of_no_sems (by decide) r.2⟩)
    (Cert.SiluIdeal.Value.run (F := Ideal) m ρ)

/-- Over the extended reals each device's result is its column block of the reference's, at every entry whose product is at
most 60 in absolute value (beyond, the reference clips the exponent's argument and the kernel doesn't). -/
theorem algebraic_reference : Cert.algebraic_KernelIdeal_ReferenceIdeal_on_unclipped := fun m g m' g' _ hag =>
  ⟨Cert.A2A.whole (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)),
    (θ_run Cert.KernelIdeal.defs _ _).mono (fun _ h c => ⟨fun i _ =>
        congrFun (Cert.A2A.ends_whole m _ _ (fun d => (hag d).1) (fun d => (hag d).2) c (h.1 c)) i, (h.1 c).1, (h.1 c).2.1⟩)
      (Cert.A2A.run_main (F := Ideal) m g),
    (θ_run Cert.ReferenceIdeal.defs _ _).mono (fun _ h => ⟨fun i hi =>
        (congrFun (h 0).1 i).trans (Cert.A2A.refOf_eq _ _ i hi), (h 0).2⟩)
      (Cert.ReferenceIdeal.Value.run (F := Ideal) m' g')⟩

/-- Over the extended reals each device's result is its column block of the reference's without the clip, at every entry. -/
theorem algebraic_silu : Cert.algebraic_KernelIdeal_SiluIdeal := fun m g m' g' _ hag =>
  ⟨Cert.A2A.whole (m' (((0 : Dev Cert.SiluIdeal.nD).tc : Thread _ Cert.SiluIdeal.τ).loc Cert.SiluIdeal.main_arg0))
      (m' (((0 : Dev Cert.SiluIdeal.nD).tc : Thread _ Cert.SiluIdeal.τ).loc Cert.SiluIdeal.main_arg1)),
    (θ_run Cert.KernelIdeal.defs _ _).mono (fun _ h c =>
        ⟨Cert.A2A.ends_whole m _ _ (fun d => (hag d).1) (fun d => (hag d).2) c (h.1 c), (h.1 c).1, (h.1 c).2.1⟩)
      (Cert.A2A.run_main (F := Ideal) m g),
    (θ_run Cert.SiluIdeal.defs _ _).mono (fun _ h => ⟨(h 0).1.trans (Cert.A2A.siluOf_eq _ _), (h 0).2⟩)
      (Cert.SiluIdeal.Value.run (F := Ideal) m' g')⟩

/-- All the claims. -/
theorem claim : Cert.Claim :=
  ⟨Cert.Kernel.Gen.facts, Cert.KernelIdeal.Gen.facts, Cert.ReferenceIdeal.Gen.facts, Cert.SiluIdeal.Gen.facts,
    Cert.On_unclipped.Gen.facts, frame_kernel, frame_kernelIdeal, frame_reference, frame_silu, trivial, algebraic_reference,
    algebraic_silu⟩

end Cert.Proof

end
